-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_as_drawn [hPre_inputs_as_drawn : Cert.Pre_inputs_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_inputs_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_inputs_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_inputs_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_inputs_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_inputs_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_inputs_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_inputs_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.1 = (fun _ => 1#1)
    ∧ (Cert.Pre_inputs_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.1 = (fun _ => 1#1)
    ∧ (Cert.Pre_inputs_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.1 = (fun _ => 1#1)
    ∧ (Cert.Pre_inputs_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.1 = (fun _ => 1#1)
    ∧ (Cert.Pre_inputs_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.1 = (fun _ => 1#1)
    ∧ (Cert.Pre_inputs_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_as_drawn [hPre_inputs_as_drawn : Cert.Pre_inputs_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_inputs_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_inputs_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_inputs_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_inputs_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_inputs_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_inputs_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_inputs_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.1 = (fun _ => 1#1)
    ∧ (Cert.Pre_inputs_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.1 = (fun _ => 1#1)
    ∧ (Cert.Pre_inputs_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.1 = (fun _ => 1#1)
    ∧ (Cert.Pre_inputs_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.1 = (fun _ => 1#1)
    ∧ (Cert.Pre_inputs_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.1 = (fun _ => 1#1)
    ∧ (Cert.Pre_inputs_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_inputs_as_drawn [hKernelIdeal : Cert.KernelIdeal.Facts] [hPre_inputs_as_drawn : Cert.Pre_inputs_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_inputs_as_drawn [hReferenceIdeal : Cert.ReferenceIdeal.Facts] [hPre_inputs_as_drawn : Cert.Pre_inputs_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_inputs_as_drawn [hKernelIdeal : Cert.KernelIdeal.Facts] [hReferenceIdeal : Cert.ReferenceIdeal.Facts] [hPre_inputs_as_drawn : Cert.Pre_inputs_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_inputs_as_drawn : Cert.Pre_inputs_as_drawn.Facts),
    quiescent_Kernel (hKernel := hKernel)
    ∧ quiescent_KernelIdeal (hKernelIdeal := hKernelIdeal)
    ∧ quiescent_KernelIdeal_pre_inputs_as_drawn (hKernelIdeal := hKernelIdeal) (hPre_inputs_as_drawn := hPre_inputs_as_drawn)
    ∧ quiescent_ReferenceIdeal (hReferenceIdeal := hReferenceIdeal)
    ∧ quiescent_ReferenceIdeal_pre_inputs_as_drawn (hReferenceIdeal := hReferenceIdeal) (hPre_inputs_as_drawn := hPre_inputs_as_drawn)
    ∧ preserves_Kernel_KernelIdeal
    ∧ algebraic_KernelIdeal_ReferenceIdeal_pre_inputs_as_drawn (hKernelIdeal := hKernelIdeal) (hReferenceIdeal := hReferenceIdeal) (hPre_inputs_as_drawn := hPre_inputs_as_drawn)
-- ==== Pre_inputs_as_drawn.lean ====
abbrev S4096x200 : Shape := ⟨2, ![4096, 200]⟩
abbrev S11x21 : Shape := ⟨2, ![11, 21]⟩
abbrev S3x21 : Shape := ⟨2, ![3, 21]⟩
abbrev S42x32 : Shape := ⟨2, ![42, 32]⟩
abbrev S32 : Shape := ⟨1, ![32]⟩
abbrev S3x32 : Shape := ⟨2, ![3, 32]⟩
abbrev S64 : Shape := ⟨1, ![64]⟩
abbrev S_ : Shape := ⟨0, ![]⟩

class Facts : Prop where
  bcast_S_S4096x200 : S_.BroadcastsInDim S4096x200 (![] : Fin 0 → Fin S4096x200.rank)
  bcast_S_S32 : S_.BroadcastsInDim S32 (![] : Fin 0 → Fin S32.rank)
  bcast_S_S3x32 : S_.BroadcastsInDim S3x32 (![] : Fin 0 → Fin S3x32.rank)
  bcast_S_S64 : S_.BroadcastsInDim S64 (![] : Fin 0 → Fin S64.rank)

variable [Facts]

def fn_part2 {F : FTy → Type} [FloatOps F] (main_arg15 : FVec F S64 .f32) (main_arg16 : FVec F S64 .f32) (main_v4 : IVec S4096x200 1) (main_v9 : IVec S4096x200 1) (main_v12 : IVec S4096x200 1) (main_v15 : IVec S4096x200 1) (main_v18 : IVec S4096x200 1) (main_v21 : IVec S32 1) (main_v24 : IVec S32 1) (main_v27 : IVec S3x32 1) (main_v30 : IVec S32 1) (main_v32 : IVec S32 1) (main_v34 : IVec S32 1) : IVec S4096x200 1 × IVec S4096x200 1 × IVec S4096x200 1 × IVec S4096x200 1 × IVec S4096x200 1 × IVec S32 1 × IVec S32 1 × IVec S3x32 1 × IVec S32 1 × IVec S32 1 × IVec S32 1 × IVec S64 1 × IVec S64 1 :=
  let main_cst_11 : FVec F S_ .f32 := constant S_ .f32 0x3F800000#32
  let main_v35 : FVec F S64 .f32 := broadcastInDim S64 ![] bcast_S_S64 main_cst_11
  let main_v36 : IVec S64 1 := cmpf .oeq main_arg15 main_v35
  let main_cst_12 : FVec F S_ .f32 := constant S_ .f32 0x00000000#32
  let main_v37 : FVec F S64 .f32 := broadcastInDim S64 ![] bcast_S_S64 main_cst_12
  let main_v38 : IVec S64 1 := cmpf .oeq main_arg16 main_v37
  (main_v4, main_v9, main_v12, main_v15, main_v18, main_v21, main_v24, main_v27, main_v30, main_v32, main_v34, main_v36, main_v38)

def fn_part1 {F : FTy → Type} [FloatOps F] (main_arg9 : FVec F S32 .f32) (main_arg10 : FVec F S32 .f32) (main_arg11 : FVec F S3x32 .f32) (main_arg12 : FVec F S32 .f32) (main_arg13 : FVec F S32 .f32) (main_arg14 : FVec F S32 .f32) (main_arg15 : FVec F S64 .f32) (main_arg16 : FVec F S64 .f32) (main_v4 : IVec S4096x200 1) (main_v9 : IVec S4096x200 1) (main_v12 : IVec S4096x200 1) (main_v15 : IVec S4096x200 1) (main_v16 : FVec F S4096x200 .f32) (main_cst_4 : FVec F S_ .f32) : IVec S4096x200 1 × IVec S4096x200 1 × IVec S4096x200 1 × IVec S4096x200 1 × IVec S4096x200 1 × IVec S32 1 × IVec S32 1 × IVec S3x32 1 × IVec S32 1 × IVec S32 1 × IVec S32 1 × IVec S64 1 × IVec S64 1 :=
  let main_v17 : FVec F S4096x200 .f32 := broadcastInDim S4096x200 ![] bcast_S_S4096x200 main_cst_4
  let main_v18 : IVec S4096x200 1 := cmpf .olt main_v16 main_v17
  let main_v19 : FVec F S32 .f32 := Host.absf main_arg9
  let main_cst_5 : FVec F S_ .f32 := constant S_ .f32 0x7F800000#32
  let main_v20 : FVec F S32 .f32 := broadcastInDim S32 ![] bcast_S_S32 main_cst_5
  let main_v21 : IVec S32 1 := cmpf .olt main_v19 main_v20
  let main_v22 : FVec F S32 .f32 := Host.absf main_arg10
  let main_cst_6 : FVec F S_ .f32 := constant S_ .f32 0x7F800000#32
  let main_v23 : FVec F S32 .f32 := broadcastInDim S32 ![] bcast_S_S32 main_cst_6
  let main_v24 : IVec S32 1 := cmpf .olt main_v22 main_v23
  let main_v25 : FVec F S3x32 .f32 := Host.absf main_arg11
  let main_cst_7 : FVec F S_ .f32 := constant S_ .f32 0x7F800000#32
  let main_v26 : FVec F S3x32 .f32 := broadcastInDim S3x32 ![] bcast_S_S3x32 main_cst_7
  let main_v27 : IVec S3x32 1 := cmpf .olt main_v25 main_v26
  let main_v28 : FVec F S32 .f32 := Host.absf main_arg12
  let main_cst_8 : FVec F S_ .f32 := constant S_ .f32 0x7F800000#32
  let main_v29 : FVec F S32 .f32 := broadcastInDim S32 ![] bcast_S_S32 main_cst_8
  let main_v30 : IVec S32 1 := cmpf .olt main_v28 main_v29
  let main_cst_9 : FVec F S_ .f32 := constant S_ .f32 0x3F800000#32
  let main_v31 : FVec F S32 .f32 := broadcastInDim S32 ![] bcast_S_S32 main_cst_9
  let main_v32 : IVec S32 1 := cmpf .oeq main_arg13 main_v31
  let main_cst_10 : FVec F S_ .f32 := constant S_ .f32 0x00000000#32
  let main_v33 : FVec F S32 .f32 := broadcastInDim S32 ![] bcast_S_S32 main_cst_10
  let main_v34 : IVec S32 1 := cmpf .oeq main_arg14 main_v33
  fn_part2 (F := F) main_arg15 main_arg16 main_v4 main_v9 main_v12 main_v15 main_v18 main_v21 main_v24 main_v27 main_v30 main_v32 main_v34

def fn {F : FTy → Type} [FloatOps F] (main_arg0 : IVec S4096x200 32) (main_arg1 : IVec S4096x200 32) (main_arg2 : FVec F S4096x200 .f32) (main_arg3 : FVec F S4096x200 .f32) (main_arg4 : FVec F S4096x200 .f32) (main_arg5 : FVec F S11x21 .f32) (main_arg6 : FVec F S3x21 .f32) (main_arg7 : FVec F S42x32 .f32) (main_arg8 : FVec F S32 .f32) (main_arg9 : FVec F S32 .f32) (main_arg10 : FVec F S32 .f32) (main_arg11 : FVec F S3x32 .f32) (main_arg12 : FVec F S32 .f32) (main_arg13 : FVec F S32 .f32) (main_arg14 : FVec F S32 .f32) (main_arg15 : FVec F S64 .f32) (main_arg16 : FVec F S64 .f32) : IVec S4096x200 1 × IVec S4096x200 1 × IVec S4096x200 1 × IVec S4096x200 1 × IVec S4096x200 1 × IVec S32 1 × IVec S32 1 × IVec S3x32 1 × IVec S32 1 × IVec S32 1 × IVec S32 1 × IVec S64 1 × IVec S64 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 10#32
  let main_v2 : IVec S4096x200 32 := broadcastInDim S4096x200 ![] bcast_S_S4096x200 main_c_0
  let main_v3 : IVec S4096x200 1 := cmpi .sle main_arg0 main_v2
  let main_v4 : IVec S4096x200 1 := andi main_v1 main_v3
  let main_c_1 : IVec S_ 32 := constantI S_ 32 0#32
  let main_v5 : IVec S4096x200 32 := broadcastInDim S4096x200 ![] bcast_S_S4096x200 main_c_1
  let main_v6 : IVec S4096x200 1 := cmpi .sge main_arg1 main_v5
  let main_c_2 : IVec S_ 32 := constantI S_ 32 2#32
  let main_v7 : IVec S4096x200 32 := broadcastInDim S4096x200 ![] bcast_S_S4096x200 main_c_2
  let main_v8 : IVec S4096x200 1 := cmpi .sle main_arg1 main_v7
  let main_v9 : IVec S4096x200 1 := andi main_v6 main_v8
  let main_v10 : FVec F S4096x200 .f32 := Host.absf main_arg2
  let main_cst : FVec F S_ .f32 := constant S_ .f32 0x7F800000#32
  let main_v11 : FVec F S4096x200 .f32 := broadcastInDim S4096x200 ![] bcast_S_S4096x200 main_cst
  let main_v12 : IVec S4096x200 1 := cmpf .olt main_v10 main_v11
  let main_v13 : FVec F S4096x200 .f32 := Host.absf main_arg3
  let main_cst_3 : FVec F S_ .f32 := constant S_ .f32 0x7F800000#32
  let main_v14 : FVec F S4096x200 .f32 := broadcastInDim S4096x200 ![] bcast_S_S4096x200 main_cst_3
  let main_v15 : IVec S4096x200 1 := cmpf .olt main_v13 main_v14
  let main_v16 : FVec F S4096x200 .f32 := Host.absf main_arg4
  let main_cst_4 : FVec F S_ .f32 := constant S_ .f32 0x7F800000#32
  fn_part1 (F := F) main_arg9 main_arg10 main_arg11 main_arg12 main_arg13 main_arg14 main_arg15 main_arg16 main_v4 main_v9 main_v12 main_v15 main_v16 main_cst_4
-- ==== Kernel.lean ====
abbrev S4096x200 : Shape := ⟨2, ![4096, 200]⟩
abbrev S11x21 : Shape := ⟨2, ![11, 21]⟩
abbrev S3x21 : Shape := ⟨2, ![3, 21]⟩
abbrev S42x32 : Shape := ⟨2, ![42, 32]⟩
abbrev S32 : Shape := ⟨1, ![32]⟩
abbrev S3x32 : Shape := ⟨2, ![3, 32]⟩
abbrev S64 : Shape := ⟨1, ![64]⟩
abbrev S12288x200 : Shape := ⟨2, ![12288, 200]⟩
abbrev S819200x3 : Shape := ⟨2, ![819200, 3]⟩
abbrev S3x819200 : Shape := ⟨2, ![3, 819200]⟩
abbrev S21x11 : Shape := ⟨2, ![21, 11]⟩
abbrev S21x3 : Shape := ⟨2, ![21, 3]⟩
abbrev S21x32 : Shape := ⟨2, ![21, 32]⟩
abbrev S32x21 : Shape := ⟨2, ![32, 21]⟩
abbrev S32x1 : Shape := ⟨2, ![32, 1]⟩
abbrev S32x3 : Shape := ⟨2, ![32, 3]⟩
abbrev S64x40 : Shape := ⟨2, ![64, 40]⟩
abbrev S4x64 : Shape := ⟨2, ![4, 64]⟩
abbrev S64x64 : Shape := ⟨2, ![64, 64]⟩
abbrev S819200x64 : Shape := ⟨2, ![819200, 64]⟩
abbrev S4096x200x64 : Shape := ⟨3, ![4096, 200, 64]⟩
abbrev S32x11 : Shape := ⟨2, ![32, 11]⟩
abbrev S11x40 : Shape := ⟨2, ![11, 40]⟩
abbrev S3x40 : Shape := ⟨2, ![3, 40]⟩
abbrev S32x40 : Shape := ⟨2, ![32, 40]⟩
abbrev S40 : Shape := ⟨1, ![40]⟩
abbrev S1x40 : Shape := ⟨2, ![1, 40]⟩
abbrev S3 : Shape := ⟨1, ![3]⟩
abbrev S1x3 : Shape := ⟨2, ![1, 3]⟩
abbrev S1 : Shape := ⟨1, ![1]⟩
abbrev S1x1 : Shape := ⟨2, ![1, 1]⟩
abbrev S32x4 : Shape := ⟨2, ![32, 4]⟩
abbrev S64x4 : Shape := ⟨2, ![64, 4]⟩
abbrev S64x200 : Shape := ⟨2, ![64, 200]⟩
abbrev S3x12800 : Shape := ⟨2, ![3, 12800]⟩
abbrev S12800x64 : Shape := ⟨2, ![12800, 64]⟩
abbrev S64x1x200 : Shape := ⟨3, ![64, 1, 200]⟩
abbrev S64x40x200 : Shape := ⟨3, ![64, 40, 200]⟩
abbrev S2560x200 : Shape := ⟨2, ![2560, 200]⟩
abbrev S40x200 : Shape := ⟨2, ![40, 200]⟩
abbrev S200x64 : Shape := ⟨2, ![200, 64]⟩
abbrev S1x12800 : Shape := ⟨2, ![1, 12800]⟩
abbrev S4x12800 : Shape := ⟨2, ![4, 12800]⟩

abbrev nBuf : Space → Nat
  | .hbm => 37
  | .vmem => 25
  | .smem => 0
  | _ => 0

abbrev bufTy : (tb : Table) → Fin (tcTables nBuf tb) → BufTy
  | .hbm, ⟨0, _⟩ => ⟨S4096x200, .i32⟩
  | .hbm, ⟨1, _⟩ => ⟨S4096x200, .i32⟩
  | .hbm, ⟨2, _⟩ => ⟨S4096x200, .f32⟩
  | .hbm, ⟨3, _⟩ => ⟨S4096x200, .f32⟩
  | .hbm, ⟨4, _⟩ => ⟨S4096x200, .f32⟩
  | .hbm, ⟨5, _⟩ => ⟨S11x21, .f32⟩
  | .hbm, ⟨6, _⟩ => ⟨S3x21, .f32⟩
  | .hbm, ⟨7, _⟩ => ⟨S42x32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S3x32, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S64, .f32⟩
  | .hbm, ⟨16, _⟩ => ⟨S64, .f32⟩
  | .hbm, ⟨17, _⟩ => ⟨S12288x200, .f32⟩
  | .hbm, ⟨18, _⟩ => ⟨S819200x3, .f32⟩
  | .hbm, ⟨19, _⟩ => ⟨S3x819200, .f32⟩
  | .hbm, ⟨20, _⟩ => ⟨S21x11, .f32⟩
  | .hbm, ⟨21, _⟩ => ⟨S21x3, .f32⟩
  | .hbm, ⟨22, _⟩ => ⟨S21x32, .f32⟩
  | .hbm, ⟨23, _⟩ => ⟨S32x21, .f32⟩
  | .hbm, ⟨24, _⟩ => ⟨S21x32, .f32⟩
  | .hbm, ⟨25, _⟩ => ⟨S32x21, .f32⟩
  | .hbm, ⟨26, _⟩ => ⟨S32x1, .f32⟩
  | .hbm, ⟨27, _⟩ => ⟨S32x1, .f32⟩
  | .hbm, ⟨28, _⟩ => ⟨S32x1, .f32⟩
  | .hbm, ⟨29, _⟩ => ⟨S32x3, .f32⟩
  | .hbm, ⟨30, _⟩ => ⟨S32x1, .f32⟩
  | .hbm, ⟨31, _⟩ => ⟨S64x40, .bf16⟩
  | .hbm, ⟨32, _⟩ => ⟨S4x64, .f32⟩
  | .hbm, ⟨33, _⟩ => ⟨S64x64, .bf16⟩
  | .hbm, ⟨34, _⟩ => ⟨S64x64, .bf16⟩
  | .hbm, ⟨35, _⟩ => ⟨S819200x64, .f32⟩
  | .hbm, ⟨36, _⟩ => ⟨S4096x200x64, .f32⟩
  | .local _ .vmem, ⟨0, _⟩ => ⟨S21x11, .f32⟩
  | .local _ .vmem, ⟨1, _⟩ => ⟨S21x3, .f32⟩
  | .local _ .vmem, ⟨2, _⟩ => ⟨S32x21, .f32⟩
  | .local _ .vmem, ⟨3, _⟩ => ⟨S32x21, .f32⟩
  | .local _ .vmem, ⟨4, _⟩ => ⟨S32x1, .f32⟩
  | .local _ .vmem, ⟨5, _⟩ => ⟨S32x1, .f32⟩
  | .local _ .vmem, ⟨6, _⟩ => ⟨S32x1, .f32⟩
  | .local _ .vmem, ⟨7, _⟩ => ⟨S32x3, .f32⟩
  | .local _ .vmem, ⟨8, _⟩ => ⟨S32x1, .f32⟩
  | .local _ .vmem, ⟨9, _⟩ => ⟨S64x40, .bf16⟩
  | .local _ .vmem, ⟨10, _⟩ => ⟨S4x64, .f32⟩
  | .local _ .vmem, ⟨11, _⟩ => ⟨S64x64, .bf16⟩
  | .local _ .vmem, ⟨12, _⟩ => ⟨S64x64, .bf16⟩
  | .local _ .vmem, ⟨13, _⟩ => ⟨S64x200, .i32⟩
  | .local _ .vmem, ⟨14, _⟩ => ⟨S64x200, .i32⟩
  | .local _ .vmem, ⟨15, _⟩ => ⟨S64x200, .i32⟩
  | .local _ .vmem, ⟨16, _⟩ => ⟨S64x200, .i32⟩
  | .local _ .vmem, ⟨17, _⟩ => ⟨S3x12800, .f32⟩
  | .local _ .vmem, ⟨18, _⟩ => ⟨S3x12800, .f32⟩
  | .local _ .vmem, ⟨19, _⟩ => ⟨S64x40, .bf16⟩
  | .local _ .vmem, ⟨20, _⟩ => ⟨S4x64, .f32⟩
  | .local _ .vmem, ⟨21, _⟩ => ⟨S64x64, .bf16⟩
  | .local _ .vmem, ⟨22, _⟩ => ⟨S64x64, .bf16⟩
  | .local _ .vmem, ⟨23, _⟩ => ⟨S12800x64, .f32⟩
  | .local _ .vmem, ⟨24, _⟩ => ⟨S12800x64, .f32⟩
  | _, _ => ⟨S4096x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14_0 : Ref sig .tc := ⟨.hbm, 31, rfl⟩
abbrev main_call0_v14_1 : Ref sig .tc := ⟨.hbm, 32, rfl⟩
abbrev main_call0_v14_2 : Ref sig .tc := ⟨.hbm, 33, rfl⟩
abbrev main_call0_v14_3 : Ref sig .tc := ⟨.hbm, 34, rfl⟩
abbrev main_call0_v15 : Ref sig .tc := ⟨.hbm, 35, rfl⟩
abbrev main_v0 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := .none

abbrev stage0_0 : Fin 1 → Memref sig .tc .vmem S21x11 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S21x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x21 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x21 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x40 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x200 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x200 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3x12800 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x40 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S12800x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S4096x200 : Shape := ⟨2, ![4096, 200]⟩
abbrev S11x21 : Shape := ⟨2, ![11, 21]⟩
abbrev S3x21 : Shape := ⟨2, ![3, 21]⟩
abbrev S42x32 : Shape := ⟨2, ![42, 32]⟩
abbrev S32 : Shape := ⟨1, ![32]⟩
abbrev S3x32 : Shape := ⟨2, ![3, 32]⟩
abbrev S64 : Shape := ⟨1, ![64]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x21 : Shape := ⟨3, ![4096, 200, 21]⟩
abbrev S4096x200x42 : Shape := ⟨3, ![4096, 200, 42]⟩
abbrev S4096x200x32 : Shape := ⟨3, ![4096, 200, 32]⟩
abbrev S1x1x32 : Shape := ⟨3, ![1, 1, 32]⟩
abbrev S12288x200 : Shape := ⟨2, ![12288, 200]⟩
abbrev S4096x200x3 : Shape := ⟨3, ![4096, 200, 3]⟩
abbrev S4096x200x64 : Shape := ⟨3, ![4096, 200, 64]⟩
abbrev S1x1x64 : Shape := ⟨3, ![1, 1, 64]⟩

abbrev nBuf : Space → Nat
  | .hbm => 207
  | .vmem => 0
  | .smem => 0
  | _ => 0

abbrev hbmTy0_0 (i : Nat) : BufTy := match i % 128 with
  | 0 => ⟨S4096x200, .i32⟩
  | 1 => ⟨S4096x200, .i32⟩
  | 2 => ⟨S4096x200, .f32⟩
  | 3 => ⟨S4096x200, .f32⟩
  | 4 => ⟨S4096x200, .f32⟩
  | 5 => ⟨S11x21, .f32⟩
  | 6 => ⟨S3x21, .f32⟩
  | 7 => ⟨S42x32, .f32⟩
  | 8 => ⟨S32, .f32⟩
  | 9 => ⟨S32, .f32⟩
  | 10 => ⟨S32, .f32⟩
  | 11 => ⟨S3x32, .f32⟩
  | 12 => ⟨S32, .f32⟩
  | 13 => ⟨S32, .f32⟩
  | 14 => ⟨S32, .f32⟩
  | 15 => ⟨S64, .f32⟩
  | 16 => ⟨S64, .f32⟩
  | 17 => ⟨S_, .i32⟩
  | 18 => ⟨S4096x200, .i32⟩
  | 19 => ⟨S4096x200, .i1⟩
  | 20 => ⟨S_, .i32⟩
  | 21 => ⟨S4096x200, .i32⟩
  | 22 => ⟨S4096x200, .i32⟩
  | 23 => ⟨S4096x200, .i32⟩
  | 24 => ⟨S4096x200x1, .i32⟩
  | 25 => ⟨S1, .i32⟩
  | 26 => ⟨S_, .i32⟩
  | 27 => ⟨S4096x200x1, .i32⟩
  | 28 => ⟨S4096x200x1, .i1⟩
  | 29 => ⟨S1x1x1, .i32⟩
  | 30 => ⟨S4096x200x1, .i32⟩
  | 31 => ⟨S4096x200x1, .i1⟩
  | 32 => ⟨S4096x200x1, .i1⟩
  | 33 => ⟨S_, .i1⟩
  | 34 => ⟨S4096x200, .i1⟩
  | 35 => ⟨S4096x200x21, .f32⟩
  | 36 => ⟨S4096x200x21, .i1⟩
  | 37 => ⟨S_, .f32⟩
  | 38 => ⟨S4096x200x21, .f32⟩
  | 39 => ⟨S4096x200x21, .f32⟩
  | 40 => ⟨S_, .i32⟩
  | 41 => ⟨S4096x200, .i32⟩
  | 42 => ⟨S4096x200, .i1⟩
  | 43 => ⟨S_, .i32⟩
  | 44 => ⟨S4096x200, .i32⟩
  | 45 => ⟨S4096x200, .i32⟩
  | 46 => ⟨S4096x200, .i32⟩
  | 47 => ⟨S4096x200x1, .i32⟩
  | 48 => ⟨S1, .i32⟩
  | 49 => ⟨S_, .i32⟩
  | 50 => ⟨S4096x200x1, .i32⟩
  | 51 => ⟨S4096x200x1, .i1⟩
  | 52 => ⟨S1x1x1, .i32⟩
  | 53 => ⟨S4096x200x1, .i32⟩
  | 54 => ⟨S4096x200x1, .i1⟩
  | 55 => ⟨S4096x200x1, .i1⟩
  | 56 => ⟨S_, .i1⟩
  | 57 => ⟨S4096x200, .i1⟩
  | 58 => ⟨S4096x200x21, .f32⟩
  | 59 => ⟨S4096x200x21, .i1⟩
  | 60 => ⟨S_, .f32⟩
  | 61 => ⟨S4096x200x21, .f32⟩
  | 62 => ⟨S4096x200x21, .f32⟩
  | 63 => ⟨S4096x200x42, .f32⟩
  | 64 => ⟨S4096x200x32, .f32⟩
  | 65 => ⟨S1x1x32, .f32⟩
  | 66 => ⟨S4096x200x32, .f32⟩
  | 67 => ⟨S4096x200x32, .f32⟩
  | 68 => ⟨S_, .f32⟩
  | 69 => ⟨S4096x200, .f32⟩
  | 70 => ⟨S4096x200x1, .f32⟩
  | 71 => ⟨S_, .f32⟩
  | 72 => ⟨S4096x200x1, .f32⟩
  | 73 => ⟨S4096x200x1, .f32⟩
  | 74 => ⟨S_, .i32⟩
  | 75 => ⟨S_, .f32⟩
  | 76 => ⟨S4096x200, .f32⟩
  | 77 => ⟨S4096x200x1, .f32⟩
  | 78 => ⟨S_, .f32⟩
  | 79 => ⟨S4096x200x1, .f32⟩
  | 80 => ⟨S4096x200x1, .f32⟩
  | 81 => ⟨S4096x200x32, .f32⟩
  | 82 => ⟨S4096x200x32, .f32⟩
  | 83 => ⟨S4096x200x32, .f32⟩
  | 84 => ⟨S_, .f32⟩
  | 85 => ⟨S_, .f32⟩
  | 86 => ⟨S_, .f32⟩
  | 87 => ⟨S_, .f32⟩
  | 88 => ⟨S4096x200, .f32⟩
  | 89 => ⟨S4096x200x1, .f32⟩
  | 90 => ⟨S4096x200x1, .f32⟩
  | 91 => ⟨S4096x200x1, .f32⟩
  | 92 => ⟨S_, .f32⟩
  | 93 => ⟨S_, .i1⟩
  | 94 => ⟨S_, .f32⟩
  | 95 => ⟨S_, .f32⟩
  | 96 => ⟨S4096x200x1, .f32⟩
  | 97 => ⟨S4096x200x1, .f32⟩
  | 98 => ⟨S4096x200x32, .f32⟩
  | 99 => ⟨S4096x200x32, .f32⟩
  | 100 => ⟨S_, .f32⟩
  | 101 => ⟨S4096x200x1, .f32⟩
  | 102 => ⟨S4096x200x1, .f32⟩
  | 103 => ⟨S4096x200x1, .f32⟩
  | 104 => ⟨S4096x200x32, .f32⟩
  | 105 => ⟨S4096x200x32, .f32⟩
  | 106 => ⟨S1x1x32, .f32⟩
  | 107 => ⟨S4096x200x32, .f32⟩
  | 108 => ⟨S4096x200x32, .f32⟩
  | 109 => ⟨S1x1x32, .f32⟩
  | 110 => ⟨S4096x200x32, .f32⟩
  | 111 => ⟨S4096x200x32, .f32⟩
  | 112 => ⟨S12288x200, .f32⟩
  | 113 => ⟨S4096x200x3, .f32⟩
  | 114 => ⟨S4096x200x32, .f32⟩
  | 115 => ⟨S1x1x32, .f32⟩
  | 116 => ⟨S4096x200x32, .f32⟩
  | 117 => ⟨S4096x200x32, .f32⟩
  | 118 => ⟨S_, .f32⟩
  | 119 => ⟨S4096x200, .f32⟩
  | 120 => ⟨S4096x200x1, .f32⟩
  | 121 => ⟨S_, .f32⟩
  | 122 => ⟨S4096x200x1, .f32⟩
  | 123 => ⟨S4096x200x1, .f32⟩
  | 124 => ⟨S_, .i32⟩
  | 125 => ⟨S_, .f32⟩
  | 126 => ⟨S4096x200, .f32⟩
  | 127 => ⟨S4096x200x1, .f32⟩
  | _ => ⟨S4096x200, .i32⟩

abbrev hbmTy0_1 (i : Nat) : BufTy := match i % 128 with
  | 0 => ⟨S_, .f32⟩
  | 1 => ⟨S4096x200x1, .f32⟩
  | 2 => ⟨S4096x200x1, .f32⟩
  | 3 => ⟨S4096x200x32, .f32⟩
  | 4 => ⟨S4096x200x32, .f32⟩
  | 5 => ⟨S4096x200x32, .f32⟩
  | 6 => ⟨S_, .f32⟩
  | 7 => ⟨S_, .f32⟩
  | 8 => ⟨S_, .f32⟩
  | 9 => ⟨S_, .f32⟩
  | 10 => ⟨S4096x200, .f32⟩
  | 11 => ⟨S4096x200x1, .f32⟩
  | 12 => ⟨S4096x200x1, .f32⟩
  | 13 => ⟨S4096x200x1, .f32⟩
  | 14 => ⟨S_, .f32⟩
  | 15 => ⟨S_, .i1⟩
  | 16 => ⟨S_, .f32⟩
  | 17 => ⟨S_, .f32⟩
  | 18 => ⟨S4096x200x1, .f32⟩
  | 19 => ⟨S4096x200x1, .f32⟩
  | 20 => ⟨S4096x200x32, .f32⟩
  | 21 => ⟨S4096x200x32, .f32⟩
  | 22 => ⟨S_, .f32⟩
  | 23 => ⟨S4096x200x1, .f32⟩
  | 24 => ⟨S4096x200x1, .f32⟩
  | 25 => ⟨S4096x200x1, .f32⟩
  | 26 => ⟨S4096x200x32, .f32⟩
  | 27 => ⟨S4096x200x32, .f32⟩
  | 28 => ⟨S1x1x32, .f32⟩
  | 29 => ⟨S4096x200x32, .f32⟩
  | 30 => ⟨S4096x200x32, .f32⟩
  | 31 => ⟨S1x1x32, .f32⟩
  | 32 => ⟨S4096x200x32, .f32⟩
  | 33 => ⟨S4096x200x32, .f32⟩
  | 34 => ⟨S4096x200x64, .f32⟩
  | 35 => ⟨S_, .f32⟩
  | 36 => ⟨S4096x200, .f32⟩
  | 37 => ⟨S4096x200x1, .f32⟩
  | 38 => ⟨S_, .f32⟩
  | 39 => ⟨S4096x200x1, .f32⟩
  | 40 => ⟨S4096x200x1, .f32⟩
  | 41 => ⟨S_, .i32⟩
  | 42 => ⟨S_, .f32⟩
  | 43 => ⟨S4096x200, .f32⟩
  | 44 => ⟨S4096x200x1, .f32⟩
  | 45 => ⟨S_, .f32⟩
  | 46 => ⟨S4096x200x1, .f32⟩
  | 47 => ⟨S4096x200x1, .f32⟩
  | 48 => ⟨S4096x200x64, .f32⟩
  | 49 => ⟨S4096x200x64, .f32⟩
  | 50 => ⟨S4096x200x64, .f32⟩
  | 51 => ⟨S_, .f32⟩
  | 52 => ⟨S_, .f32⟩
  | 53 => ⟨S_, .f32⟩
  | 54 => ⟨S_, .f32⟩
  | 55 => ⟨S4096x200, .f32⟩
  | 56 => ⟨S4096x200x1, .f32⟩
  | 57 => ⟨S4096x200x1, .f32⟩
  | 58 => ⟨S4096x200x1, .f32⟩
  | 59 => ⟨S_, .f32⟩
  | 60 => ⟨S_, .i1⟩
  | 61 => ⟨S_, .f32⟩
  | 62 => ⟨S_, .f32⟩
  | 63 => ⟨S4096x200x1, .f32⟩
  | 64 => ⟨S4096x200x1, .f32⟩
  | 65 => ⟨S4096x200x64, .f32⟩
  | 66 => ⟨S4096x200x64, .f32⟩
  | 67 => ⟨S_, .f32⟩
  | 68 => ⟨S4096x200x1, .f32⟩
  | 69 => ⟨S4096x200x1, .f32⟩
  | 70 => ⟨S4096x200x1, .f32⟩
  | 71 => ⟨S4096x200x64, .f32⟩
  | 72 => ⟨S4096x200x64, .f32⟩
  | 73 => ⟨S1x1x64, .f32⟩
  | 74 => ⟨S4096x200x64, .f32⟩
  | 75 => ⟨S4096x200x64, .f32⟩
  | 76 => ⟨S1x1x64, .f32⟩
  | 77 => ⟨S4096x200x64, .f32⟩
  | 78 => ⟨S4096x200x64, .f32⟩
  | _ => ⟨S4096x200, .i32⟩

abbrev hbmTy (i : Nat) : BufTy := match i / 128 with
  | 0 => hbmTy0_0 i
  | 1 => hbmTy0_1 i
  | _ => ⟨S4096x200, .i32⟩

abbrev bufTy : (tb : Table) → Fin (tcTables nBuf tb) → BufTy
  | .hbm, ⟨i, _⟩ => hbmTy i
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v0 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v1 : Ref sig .tc := ⟨.hbm, 62, rfl⟩
abbrev main_v2 : Ref sig .tc := ⟨.hbm, 63, rfl⟩
abbrev main_v3 : Ref sig .tc := ⟨.hbm, 64, rfl⟩
abbrev main_v4 : Ref sig .tc := ⟨.hbm, 65, rfl⟩
abbrev main_v5 : Ref sig .tc := ⟨.hbm, 66, rfl⟩
abbrev main_v6 : Ref sig .tc := ⟨.hbm, 67, rfl⟩
abbrev main_cst : Ref sig .tc := ⟨.hbm, 68, rfl⟩
abbrev main_v7 : Ref sig .tc := ⟨.hbm, 69, rfl⟩
abbrev main_v8 : Ref sig .tc := ⟨.hbm, 70, rfl⟩
abbrev main_cst_0 : Ref sig .tc := ⟨.hbm, 71, rfl⟩
abbrev main_v9 : Ref sig .tc := ⟨.hbm, 72, rfl⟩
abbrev main_v10 : Ref sig .tc := ⟨.hbm, 73, rfl⟩
abbrev main_c : Ref sig .tc := ⟨.hbm, 74, rfl⟩
abbrev main_call2_cst : Ref sig .tc := ⟨.hbm, 75, rfl⟩
abbrev main_call2_v0 : Ref sig .tc := ⟨.hbm, 76, rfl⟩
abbrev main_call2_v1 : Ref sig .tc := ⟨.hbm, 77, rfl⟩
abbrev main_call2_cst_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_v6 : Ref sig .tc := ⟨.hbm, 83, rfl⟩
abbrev main_call2_v7 : Ref sig .tc := ⟨.hbm, 84, rfl⟩
abbrev main_call2_cst_1 : Ref sig .tc := ⟨.hbm, 85, rfl⟩
abbrev main_call2_v8 : Ref sig .tc := ⟨.hbm, 86, rfl⟩
abbrev main_call2_cst_2 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_v12 : Ref sig .tc := ⟨.hbm, 91, rfl⟩
abbrev main_call2_cst_3 : Ref sig .tc := ⟨.hbm, 92, rfl⟩
abbrev main_call2_v13 : Ref sig .tc := ⟨.hbm, 93, rfl⟩
abbrev main_call2_cst_4 : Ref sig .tc := ⟨.hbm, 94, rfl⟩
abbrev main_call2_call0_v0 : Ref sig .tc := ⟨.hbm, 95, rfl⟩
abbrev main_call2_call0_v1 : Ref sig .tc := ⟨.hbm, 96, rfl⟩
abbrev main_v11 : Ref sig .tc := ⟨.hbm, 97, rfl⟩
abbrev main_v12 : Ref sig .tc := ⟨.hbm, 98, rfl⟩
abbrev main_v13 : Ref sig .tc := ⟨.hbm, 99, rfl⟩
abbrev main_cst_1 : Ref sig .tc := ⟨.hbm, 100, rfl⟩
abbrev main_v14 : Ref sig .tc := ⟨.hbm, 101, rfl⟩
abbrev main_v15 : Ref sig .tc := ⟨.hbm, 102, rfl⟩
abbrev main_v16 : Ref sig .tc := ⟨.hbm, 103, rfl⟩
abbrev main_v17 : Ref sig .tc := ⟨.hbm, 104, rfl⟩
abbrev main_v18 : Ref sig .tc := ⟨.hbm, 105, rfl⟩
abbrev main_v19 : Ref sig .tc := ⟨.hbm, 106, rfl⟩
abbrev main_v20 : Ref sig .tc := ⟨.hbm, 107, rfl⟩
abbrev main_v21 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_cst_2 : Ref sig .tc := ⟨.hbm, 118, rfl⟩
abbrev main_v31 : Ref sig .tc := ⟨.hbm, 119, rfl⟩
abbrev main_v32 : Ref sig .tc := ⟨.hbm, 120, rfl⟩
abbrev main_cst_3 : Ref sig .tc := ⟨.hbm, 121, rfl⟩
abbrev main_v33 : Ref sig .tc := ⟨.hbm, 122, rfl⟩
abbrev main_v34 : Ref sig .tc := ⟨.hbm, 123, rfl⟩
abbrev main_c_4 : Ref sig .tc := ⟨.hbm, 124, rfl⟩
abbrev main_call3_cst : Ref sig .tc := ⟨.hbm, 125, rfl⟩
abbrev main_call3_v0 : Ref sig .tc := ⟨.hbm, 126, rfl⟩
abbrev main_call3_v1 : Ref sig .tc := ⟨.hbm, 127, rfl⟩
abbrev main_call3_cst_0 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_v7 : Ref sig .tc := ⟨.hbm, 134, rfl⟩
abbrev main_call3_cst_1 : Ref sig .tc := ⟨.hbm, 135, rfl⟩
abbrev main_call3_v8 : Ref sig .tc := ⟨.hbm, 136, rfl⟩
abbrev main_call3_cst_2 : Ref sig .tc := ⟨.hbm, 137, rfl⟩
abbrev main_call3_v9 : Ref sig .tc := ⟨.hbm, 138, rfl⟩
abbrev main_call3_v10 : Ref sig .tc := ⟨.hbm, 139, rfl⟩
abbrev main_call3_v11 : Ref sig .tc := ⟨.hbm, 140, rfl⟩
abbrev main_call3_v12 : Ref sig .tc := ⟨.hbm, 141, rfl⟩
abbrev main_call3_cst_3 : Ref sig .tc := ⟨.hbm, 142, rfl⟩
abbrev main_call3_v13 : Ref sig .tc := ⟨.hbm, 143, rfl⟩
abbrev main_call3_cst_4 : Ref sig .tc := ⟨.hbm, 144, rfl⟩
abbrev main_call3_call0_v0 : Ref sig .tc := ⟨.hbm, 145, rfl⟩
abbrev main_call3_call0_v1 : Ref sig .tc := ⟨.hbm, 146, rfl⟩
abbrev main_v35 : Ref sig .tc := ⟨.hbm, 147, rfl⟩
abbrev main_v36 : Ref sig .tc := ⟨.hbm, 148, rfl⟩
abbrev main_v37 : Ref sig .tc := ⟨.hbm, 149, rfl⟩
abbrev main_cst_5 : Ref sig .tc := ⟨.hbm, 150, rfl⟩
abbrev main_v38 : Ref sig .tc := ⟨.hbm, 151, rfl⟩
abbrev main_v39 : Ref sig .tc := ⟨.hbm, 152, rfl⟩
abbrev main_v40 : Ref sig .tc := ⟨.hbm, 153, rfl⟩
abbrev main_v41 : Ref sig .tc := ⟨.hbm, 154, rfl⟩
abbrev main_v42 : Ref sig .tc := ⟨.hbm, 155, rfl⟩
abbrev main_v43 : Ref sig .tc := ⟨.hbm, 156, rfl⟩
abbrev main_v44 : Ref sig .tc := ⟨.hbm, 157, rfl⟩
abbrev main_v45 : Ref sig .tc := ⟨.hbm, 158, rfl⟩
abbrev main_v46 : Ref sig .tc := ⟨.hbm, 159, rfl⟩
abbrev main_v47 : Ref sig .tc := ⟨.hbm, 160, rfl⟩
abbrev main_v48 : Ref sig .tc := ⟨.hbm, 161, rfl⟩
abbrev main_v49 : Ref sig .tc := ⟨.hbm, 162, rfl⟩
abbrev main_cst_6 : Ref sig .tc := ⟨.hbm, 163, rfl⟩
abbrev main_v50 : Ref sig .tc := ⟨.hbm, 164, rfl⟩
abbrev main_v51 : Ref sig .tc := ⟨.hbm, 165, rfl⟩
abbrev main_cst_7 : Ref sig .tc := ⟨.hbm, 166, rfl⟩
abbrev main_v52 : Ref sig .tc := ⟨.hbm, 167, rfl⟩
abbrev main_v53 : Ref sig .tc := ⟨.hbm, 168, rfl⟩
abbrev main_c_8 : Ref sig .tc := ⟨.hbm, 169, rfl⟩
abbrev main_call4_cst : Ref sig .tc := ⟨.hbm, 170, rfl⟩
abbrev main_call4_v0 : Ref sig .tc := ⟨.hbm, 171, rfl⟩
abbrev main_call4_v1 : Ref sig .tc := ⟨.hbm, 172, rfl⟩
abbrev main_call4_cst_0 : Ref sig .tc := ⟨.hbm, 173, rfl⟩
abbrev main_call4_v2 : Ref sig .tc := ⟨.hbm, 174, rfl⟩
abbrev main_call4_v3 : Ref sig .tc := ⟨.hbm, 175, rfl⟩
abbrev main_call4_v4 : Ref sig .tc := ⟨.hbm, 176, rfl⟩
abbrev main_call4_v5 : Ref sig .tc := ⟨.hbm, 177, rfl⟩
abbrev main_call4_v6 : Ref sig .tc := ⟨.hbm, 178, rfl⟩
abbrev main_call4_v7 : Ref sig .tc := ⟨.hbm, 179, rfl⟩
abbrev main_call4_cst_1 : Ref sig .tc := ⟨.hbm, 180, rfl⟩
abbrev main_call4_v8 : Ref sig .tc := ⟨.hbm, 181, rfl⟩
abbrev main_call4_cst_2 : Ref sig .tc := ⟨.hbm, 182, rfl⟩
abbrev main_call4_v9 : Ref sig .tc := ⟨.hbm, 183, rfl⟩
abbrev main_call4_v10 : Ref sig .tc := ⟨.hbm, 184, rfl⟩
abbrev main_call4_v11 : Ref sig .tc := ⟨.hbm, 185, rfl⟩
abbrev main_call4_v12 : Ref sig .tc := ⟨.hbm, 186, rfl⟩
abbrev main_call4_cst_3 : Ref sig .tc := ⟨.hbm, 187, rfl⟩
abbrev main_call4_v13 : Ref sig .tc := ⟨.hbm, 188, rfl⟩
abbrev main_call4_cst_4 : Ref sig .tc := ⟨.hbm, 189, rfl⟩
abbrev main_call4_call0_v0 : Ref sig .tc := ⟨.hbm, 190, rfl⟩
abbrev main_call4_call0_v1 : Ref sig .tc := ⟨.hbm, 191, rfl⟩
abbrev main_v54 : Ref sig .tc := ⟨.hbm, 192, rfl⟩
abbrev main_v55 : Ref sig .tc := ⟨.hbm, 193, rfl⟩
abbrev main_v56 : Ref sig .tc := ⟨.hbm, 194, rfl⟩
abbrev main_cst_9 : Ref sig .tc := ⟨.hbm, 195, rfl⟩
abbrev main_v57 : Ref sig .tc := ⟨.hbm, 196, rfl⟩
abbrev main_v58 : Ref sig .tc := ⟨.hbm, 197, rfl⟩
abbrev main_v59 : Ref sig .tc := ⟨.hbm, 198, rfl⟩
abbrev main_v60 : Ref sig .tc := ⟨.hbm, 199, rfl⟩
abbrev main_v61 : Ref sig .tc := ⟨.hbm, 200, rfl⟩
abbrev main_v62 : Ref sig .tc := ⟨.hbm, 201, rfl⟩
abbrev main_v63 : Ref sig .tc := ⟨.hbm, 202, rfl⟩
abbrev main_v64 : Ref sig .tc := ⟨.hbm, 203, rfl⟩
abbrev main_v65 : Ref sig .tc := ⟨.hbm, 204, rfl⟩
abbrev main_v66 : Ref sig .tc := ⟨.hbm, 205, rfl⟩
abbrev main_v67 : Ref sig .tc := ⟨.hbm, 206, rfl⟩

abbrev nD : Nat := 1
abbrev τ : Topo := Topo.v7x

variable {F : FTy → Type} [FloatOps F]
-- ==== Proof.Norm.lean ====
/- Layer normalisation of a row of extended reals: the quotient by a square root that the reference
   writes and the product with a reciprocal square root that the kernel writes are one real number. -/
module

public import Idealize.ShloMosaic.Lib.Pointwise

@[expose] public section

noncomputable section

namespace Cert.Proof

open Idealize.ShloMosaic

/-- The deviation of the `h`-th element of a row from the row's mean, the mean being the sum divided by `N`. -/
def dev {n : ℕ} (N : EReal) (p : Fin n → EReal) (h : Fin n) : EReal :=
  p h - Ideal.div (∑ j, p j) N

/-- The variance of a row: the sum of its squared deviations divided by `N`. -/
def vari {n : ℕ} (N : EReal) (p : Fin n → EReal) : EReal :=
  Ideal.div (∑ j, dev N p j * dev N p j) N

/-- A row normalised as the reference writes it. -/
def lnRef {n : ℕ} (N e : EReal) (p : Fin n → EReal) (h : Fin n) : EReal :=
  Ideal.div (dev N p h) (Ideal.sqrt (vari N p + e))

/-- A row normalised as the kernel writes it. -/
def lnKer {n : ℕ} (N e : EReal) (p : Fin n → EReal) (h : Fin n) : EReal :=
  dev N p h * Ideal.rsqrt (vari N p + e)

/-- The square of an extended real is not negative. -/
theorem sq_nonneg' (x : EReal) : 0 ≤ x * x := by
  induction x using EReal.rec with
  | bot => simp
  | top => simp
  | coe r => rw [← EReal.coe_mul]; exact EReal.coe_nonneg.mpr (mul_self_nonneg r)

/-- An extended real whose square is at most a real is a real. -/
theorem real_of_sq_le (x : EReal) (s : ℝ) (h : x * x ≤ (s : EReal)) : ∃ r : ℝ, x = r := by
  induction x using EReal.rec with
  | bot => simp at h
  | top => simp at h
  | coe r => exact ⟨r, rfl⟩

/-- Whatever the deviations of a row are, the two ways of dividing them by their standard deviation
    agree, and the common value is a real number: deviations of infinite spread are divided to zero. -/
theorem scaled_real {n : ℕ} (N e : ℝ) (hN : 0 < N) (he : 0 < e) (d : Fin n → EReal) (h : Fin n) :
    ∃ r : ℝ, Ideal.div (d h) (Ideal.sqrt (Ideal.div (∑ j, d j * d j) N + e)) = r
      ∧ d h * Ideal.rsqrt (Ideal.div (∑ j, d j * d j) N + e) = r := by
  have hs : 0 ≤ ∑ j, d j * d j := Finset.sum_nonneg fun j _ => sq_nonneg' (d j)
  have hle : d h * d h ≤ ∑ j, d j * d j :=
    Finset.single_le_sum (f := fun j => d j * d j) (fun j _ => sq_nonneg' (d j)) (Finset.mem_univ h)
  generalize (∑ j, d j * d j) = s at hs hle
  rw [Ideal.div_coe hN.ne']
  induction s using EReal.rec with
  | bot => simp at hs
  | top =>
    have h1 : (⊤ : EReal) * ((1 / N : ℝ) : EReal) = ⊤ :=
      EReal.top_mul_coe_of_pos (by positivity)
    refine ⟨0, ?_, ?_⟩
    · rw [h1, EReal.top_add_coe, Ideal.sqrt_top]
      simp [Ideal.div]
    · rw [h1, EReal.top_add_coe, Ideal.rsqrt_top]; simp
  | coe s =>
    obtain ⟨r, hr⟩ := real_of_sq_le _ s hle
    have hs' : 0 ≤ s := EReal.coe_nonneg.mp hs
    have hp : 0 < s * (1 / N) + e := by positivity
    refine ⟨r * (Real.sqrt (s * (1 / N) + e))⁻¹, ?_, ?_⟩
    · rw [hr, ← EReal.coe_mul, ← EReal.coe_add, Ideal.sqrt_coe, if_neg (not_lt.mpr hp.le),
        Ideal.div_coe (Real.sqrt_pos.mpr hp).ne', ← EReal.coe_mul, one_div]
    · rw [hr, ← EReal.coe_mul, ← EReal.coe_add, Ideal.rsqrt_coe, if_neg (not_lt.mpr hp.le),
        if_neg hp.ne', ← EReal.coe_mul]

/-- Of any row of extended reals, the kernel's normalisation and the reference's are one real number. -/
theorem ln_real {n : ℕ} (N e : ℝ) (hN : 0 < N) (he : 0 < e) (p : Fin n → EReal) (h : Fin n) :
    ∃ r : ℝ, lnRef (N : EReal) e p h = r ∧ lnKer (N : EReal) e p h = r :=
  scaled_real N e hN he (dev (N : EReal) p) h

end Cert.Proof

end
-- ==== Proof.Literals.lean ====
/- The float literals of the two programs as real numbers. -/
module

public import Idealize.ShloMosaic.Lib.Pointwise

@[expose] public section

noncomputable section

namespace Cert.Proof

open Idealize.ShloMosaic

/-- The small positive number both programs add to a variance: the rational that the float nearest
    to 1e-6 is. -/
def eps : ℝ := 8796093 / 8796093022208

/-- It is positive. -/
theorem eps_pos : 0 < eps := by norm_num [eps]

/-- The literal 1e-6 is `eps`. -/
theorem lit_eps : Ideal.ofBits .f32 0x358637BD#32 = (eps : EReal) := by
  simp [Ideal.ofBits, Ideal.ieee, eps, -EReal.coe_mul]; norm_num

/-- The literal 0.5e-6 is half of `eps`. -/
theorem lit_half_eps : Ideal.ofBits .f32 0x350637BD#32 = ((eps / 2 : ℝ) : EReal) := by
  simp [Ideal.ofBits, Ideal.ieee, eps, -EReal.coe_mul]; norm_num

/-- The literal 0.5. -/
theorem lit_half : Ideal.ofBits .f32 0x3F000000#32 = ((1 / 2 : ℝ) : EReal) := by
  simp [Ideal.ofBits, Ideal.ieee, -EReal.coe_mul]; norm_num

/-- The literal 1/32. -/
theorem lit_inv32 : Ideal.ofBits .f32 0x3D000000#32 = ((1 / 32 : ℝ) : EReal) := by
  simp [Ideal.ofBits, Ideal.ieee, -EReal.coe_mul]; norm_num

/-- The literal 1/64. -/
theorem lit_inv64 : Ideal.ofBits .f32 0x3C800000#32 = ((1 / 64 : ℝ) : EReal) := by
  simp [Ideal.ofBits, Ideal.ieee, -EReal.coe_mul]; norm_num

/-- The literal 32. -/
theorem lit_32 : Ideal.ofBits .f32 0x42000000#32 = ((32 : ℝ) : EReal) := by
  simp [Ideal.ofBits, Ideal.ieee, -EReal.coe_mul]; norm_num

/-- The literal 64. -/
theorem lit_64 : Ideal.ofBits .f32 0x42800000#32 = ((64 : ℝ) : EReal) := by
  simp [Ideal.ofBits, Ideal.ieee, -EReal.coe_mul]; norm_num

/-- The bit pattern of infinity. -/
theorem lit_inf : Ideal.ofBits .f32 0x7F800000#32 = (⊤ : EReal) := by
  simp [Ideal.ofBits, Ideal.ieee]

end Cert.Proof

end
-- ==== Proof.Mix.lean ====
/- The equation between the kernel's last step and the reference's: normalising the row that joins the
   categorical half and the normalised numeric half, from sums over the row before the numeric half is scaled. -/
module

public import proofs.«01_k».proof.Proof.Norm
public import proofs.«01_k».proof.Proof.Literals

@[expose] public section

noncomputable section

namespace Cert.Proof

open Idealize.ShloMosaic

/-- A row of 64 elements from its two halves. -/
def join {α : Type} (c d : Fin 32 → α) (i : Fin 64) : α :=
  if h : i.val < 32 then c ⟨i.val, h⟩ else d ⟨i.val - 32, by omega⟩

/-- A sum over a joined row is the sum over the first half and the sum over the second. -/
theorem sum_join {M : Type} [AddCommMonoid M] (f : Fin 64 → M) :
    ∑ i, f i = ∑ h : Fin 32, f ⟨h.val, by omega⟩ + ∑ h : Fin 32, f ⟨32 + h.val, by omega⟩ :=
  Fin.sum_univ_add (a := 32) (b := 32) f

/-- The first half of a joined row. -/
theorem join_left {α : Type} (c d : Fin 32 → α) (h : Fin 32) (hh : h.val < 64) : join c d ⟨h.val, hh⟩ = c h := by
  simp [join]

/-- The second half of a joined row. -/
theorem join_right {α : Type} (c d : Fin 32 → α) (h : Fin 32) (hh : 32 + h.val < 64) :
    join c d ⟨32 + h.val, hh⟩ = d h := by
  simp [join]

/-- What the kernel makes of a row `v` of 64 values, at lane `i`: the second half is scaled by the reciprocal of its
    standard deviation, and the whole is normalised with a mean and a variance that are read off the sums of the
    first half. -/
def kerRow (v : Fin 64 → EReal) (i : Fin 64) : EReal :=
  (v i * (if i.val < 32 then 1 else
        Ideal.rsqrt ((∑ k : Fin 64, v k * v k * (if 32 ≤ k.val then ((1 / 32 : ℝ) : EReal) else 0)) + (eps : EReal)))
      - ∑ k : Fin 64, v k * (if k.val < 32 then ((1 / 64 : ℝ) : EReal) else 0))
    * Ideal.rsqrt ((((∑ k : Fin 64, v k * v k * (if k.val < 32 then ((1 / 64 : ℝ) : EReal) else 0))
          - (∑ k : Fin 64, v k * (if k.val < 32 then ((1 / 64 : ℝ) : EReal) else 0))
            * (∑ k : Fin 64, v k * (if k.val < 32 then ((1 / 64 : ℝ) : EReal) else 0)))
        + (((1 / 2 : ℝ) : EReal) - ((eps / 2 : ℝ) : EReal)
            * (Ideal.rsqrt ((∑ k : Fin 64, v k * v k * (if 32 ≤ k.val then ((1 / 32 : ℝ) : EReal) else 0)) + (eps : EReal))
              * Ideal.rsqrt ((∑ k : Fin 64, v k * v k * (if 32 ≤ k.val then ((1 / 32 : ℝ) : EReal) else 0)) + (eps : EReal)))))
      + (eps : EReal))

/-- The coercion of a finite sum of reals. -/
theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The deviation of a row of reals. -/
theorem dev_coe {n : ℕ} (N : ℝ) (hN : N ≠ 0) (p : Fin n → ℝ) (h : Fin n) :
    dev (N : EReal) (fun j => (p j : EReal)) h = ((p h - (∑ j, p j) * (1 / N) : ℝ) : EReal) := by
  unfold dev
  rw [Ideal.div_coe hN, ← coe_sum', ← EReal.coe_mul, ← EReal.coe_sub]

/-- The variance of a row of reals. -/
theorem vari_coe {n : ℕ} (N : ℝ) (hN : N ≠ 0) (p : Fin n → ℝ) :
    vari (N : EReal) (fun j => (p j : EReal))
      = (((∑ j, (p j - (∑ j, p j) * (1 / N)) * (p j - (∑ j, p j) * (1 / N))) * (1 / N) : ℝ) : EReal) := by
  unfold vari
  simp only [dev_coe N hN, ← EReal.coe_mul]
  rw [← coe_sum', Ideal.div_coe hN, ← EReal.coe_mul]

/-- A row of reals, normalised as the reference writes it. -/
theorem lnRef_coe {n : ℕ} (N e : ℝ) (hN : 0 < N) (he : 0 < e) (p : Fin n → ℝ) (h : Fin n) :
    lnRef (N : EReal) e (fun j => (p j : EReal)) h
      = (((p h - (∑ j, p j) * (1 / N))
          * (Real.sqrt ((∑ j, (p j - (∑ j, p j) * (1 / N)) * (p j - (∑ j, p j) * (1 / N))) * (1 / N) + e))⁻¹ : ℝ)
          : EReal) := by
  have hp : 0 < (∑ j, (p j - (∑ j, p j) * (1 / N)) * (p j - (∑ j, p j) * (1 / N))) * (1 / N) + e := by
    have : 0 ≤ ∑ j, (p j - (∑ j, p j) * (1 / N)) * (p j - (∑ j, p j) * (1 / N)) :=
      Finset.sum_nonneg fun j _ => mul_self_nonneg _
    positivity
  unfold lnRef
  rw [dev_coe N hN.ne', vari_coe N hN.ne', ← EReal.coe_add, Ideal.sqrt_coe, if_neg (not_lt.mpr hp.le),
    Ideal.div_coe (Real.sqrt_pos.mpr hp).ne', ← EReal.coe_mul, one_div (√_)]

/-- The reciprocal square root of a positive real. -/
theorem rsqrt_pos (x : ℝ) (h : 0 < x) : Ideal.rsqrt (x : EReal) = (((Real.sqrt x)⁻¹ : ℝ) : EReal) := by
  rw [Ideal.rsqrt_coe, if_neg (not_lt.mpr h.le), if_neg h.ne']

/-- The variance of the joined row from the sums that the kernel forms. `c` is the first half, `d` the second before
    its scaling, `r` the scaling: `r² · (∑ d² / 32 + eps) = 1`. -/
theorem var_join (c d : Fin 32 → ℝ) (r : ℝ) (hd : ∑ h, d h = 0)
    (hr : r * r * ((∑ h, d h * d h) * (1 / 32) + eps) = 1) :
    (∑ i : Fin 64, (join c (fun h => d h * r) i - (∑ j, join c (fun h => d h * r) j) * (1 / 64))
        * (join c (fun h => d h * r) i - (∑ j, join c (fun h => d h * r) j) * (1 / 64))) * (1 / 64)
      = ((∑ h, c h * c h) * (1 / 64) - (∑ h, c h) * (1 / 64) * ((∑ h, c h) * (1 / 64)))
        + (1 / 2 - eps / 2 * (r * r)) := by
  have hm : ∑ j, join c (fun h => d h * r) j = ∑ h, c h := by
    rw [sum_join]; simp only [join_left, join_right]; rw [← Finset.sum_mul, hd]; ring
  rw [hm]
  set m := (∑ h, c h) * (1 / 64) with hmdef
  have e1 : ∑ i : Fin 64, (join c (fun h => d h * r) i - m) * (join c (fun h => d h * r) i - m)
      = (∑ i : Fin 64, join c (fun h => d h * r) i * join c (fun h => d h * r) i)
        - 2 * m * (∑ i : Fin 64, join c (fun h => d h * r) i) + 64 * (m * m) := by
    rw [Finset.mul_sum, ← Finset.sum_sub_distrib]
    have : (64 : ℝ) * (m * m) = ∑ _i : Fin 64, m * m := by simp
    rw [this, ← Finset.sum_add_distrib]
    exact Finset.sum_congr rfl fun i _ => by ring
  have e2 : ∑ i : Fin 64, join c (fun h => d h * r) i * join c (fun h => d h * r) i
      = (∑ h, c h * c h) + r * r * ∑ h, d h * d h := by
    rw [sum_join]; simp only [join_left, join_right]; rw [Finset.mul_sum]
    congr 1; exact Finset.sum_congr rfl fun i _ => by ring
  have e3 : ∑ h, c h = 64 * m := by rw [hmdef]; ring
  rw [e1, e2, hm, e3]
  linear_combination (1 / 2) * hr

/-- The kernel's row from a real first half and a numeric second half given by its deviations is the reference's
    normalisation of the joined row, the numeric half normalised on its own first. -/
theorem kerRow_eq (c p : Fin 32 → ℝ) (i : Fin 64) :
    kerRow (join (fun h => (c h : EReal)) (fun h => dev ((32 : ℝ) : EReal) (fun j => (p j : EReal)) h)) i
      = lnRef ((64 : ℝ) : EReal) (eps : EReal)
          (join (fun h => (c h : EReal)) (lnRef ((32 : ℝ) : EReal) (eps : EReal) fun j => (p j : EReal))) i := by
  set d : Fin 32 → ℝ := fun h => p h - (∑ j, p j) * (1 / 32) with hd
  have hpos : 0 < (∑ h, d h * d h) * (1 / 32) + eps := by
    have : 0 ≤ ∑ h, d h * d h := Finset.sum_nonneg fun j _ => mul_self_nonneg _
    have := eps_pos; positivity
  set r : ℝ := (Real.sqrt ((∑ h, d h * d h) * (1 / 32) + eps))⁻¹ with hr
  have hrr : r * r * ((∑ h, d h * d h) * (1 / 32) + eps) = 1 := by
    rw [hr, ← mul_inv, Real.mul_self_sqrt hpos.le, inv_mul_cancel₀ hpos.ne']
  have hd0 : ∑ h, d h = 0 := by
    rw [hd, Finset.sum_sub_distrib]; simp; ring
  have hval : join (fun h => (c h : EReal)) (fun h => dev ((32 : ℝ) : EReal) (fun j => (p j : EReal)) h)
      = fun k => ((join c d k : ℝ) : EReal) := by
    funext k; unfold join; split
    · rfl
    · exact dev_coe 32 (by norm_num) p _
  have hy : join (fun h => (c h : EReal)) (lnRef ((32 : ℝ) : EReal) (eps : EReal) fun j => (p j : EReal))
      = fun k => ((join c (fun h => d h * r) k : ℝ) : EReal) := by
    funext k; unfold join; split
    · rfl
    · rw [lnRef_coe 32 eps (by norm_num) eps_pos]
  have hv : (∑ k : Fin 64, ((join c d k : ℝ) : EReal) * ((join c d k : ℝ) : EReal)
        * (if 32 ≤ k.val then ((1 / 32 : ℝ) : EReal) else 0))
      = (((∑ h, d h * d h) * (1 / 32) : ℝ) : EReal) := by
    rw [sum_join, Finset.sum_eq_zero (s := Finset.univ), zero_add]
    · simp only [join_right, Nat.le_add_right, if_true, ← EReal.coe_mul]
      rw [← coe_sum', Finset.sum_mul]
    · intro h _; rw [if_neg (by have := h.isLt; simp), mul_zero]
  have hm : (∑ k : Fin 64, ((join c d k : ℝ) : EReal) * (if k.val < 32 then ((1 / 64 : ℝ) : EReal) else 0))
      = (((∑ h, c h) * (1 / 64) : ℝ) : EReal) := by
    rw [sum_join, add_comm, Finset.sum_eq_zero (s := Finset.univ), zero_add]
    · simp only [join_left, Fin.is_lt, if_true, ← EReal.coe_mul]
      rw [← coe_sum', Finset.sum_mul]
    · intro h _; simp
  have hq : (∑ k : Fin 64, ((join c d k : ℝ) : EReal) * ((join c d k : ℝ) : EReal)
        * (if k.val < 32 then ((1 / 64 : ℝ) : EReal) else 0))
      = (((∑ h, c h * c h) * (1 / 64) : ℝ) : EReal) := by
    rw [sum_join, add_comm, Finset.sum_eq_zero (s := Finset.univ), zero_add]
    · simp only [join_left, Fin.is_lt, if_true, ← EReal.coe_mul]
      rw [← coe_sum', Finset.sum_mul]
    · intro h _; simp
  have hvj := var_join c d r hd0 hrr
  have hsum : ∑ j, join c (fun h => d h * r) j = ∑ h, c h := by
    rw [sum_join]; simp only [join_left, join_right]; rw [← Finset.sum_mul, hd0]; ring
  have hvt : 0 < (∑ i : Fin 64, (join c (fun h => d h * r) i - (∑ j, join c (fun h => d h * r) j) * (1 / 64))
        * (join c (fun h => d h * r) i - (∑ j, join c (fun h => d h * r) j) * (1 / 64))) * (1 / 64) + eps := by
    have : 0 ≤ ∑ i : Fin 64, (join c (fun h => d h * r) i - (∑ j, join c (fun h => d h * r) j) * (1 / 64))
        * (join c (fun h => d h * r) i - (∑ j, join c (fun h => d h * r) j) * (1 / 64)) :=
      Finset.sum_nonneg fun j _ => mul_self_nonneg _
    have := eps_pos; positivity
  have hyi : ((join c d i : ℝ) : EReal) * (if i.val < 32 then 1 else (r : EReal))
      = ((join c (fun h => d h * r) i : ℝ) : EReal) := by
    unfold join; split <;> simp
  rw [hval, hy, lnRef_coe 64 eps (by norm_num) eps_pos]
  unfold kerRow
  simp only [hv, hm, hq]
  rw [← EReal.coe_add, rsqrt_pos _ hpos, ← hr, hyi]
  simp only [← EReal.coe_mul, ← EReal.coe_sub, ← EReal.coe_add]
  rw [hvj] at hvt ⊢
  rw [rsqrt_pos _ hvt, ← EReal.coe_mul, hsum]

end Cert.Proof

end
-- ==== Proof.Table.lean ====
/- What the first kernel's four tables hold, entry by entry. -/
module

public import proofs.«01_k».proof.Proof.Gen.KernelIdeal.Frame
public import proofs.«01_k».proof.Proof.Mix
public import proofs.«01_k».proof.Proof.Literals
public import Idealize.ShloMosaic.Lib.Pointwise

@[expose] public section

set_option maxRecDepth 16384

noncomputable section

namespace Cert.KernelIdeal.Value

open Idealize.ShloMosaic Idealize.ShloMosaic.TcCoe Idealize.SL.Sem
open Cert.Proof Cert.KernelIdeal.Gen

/-- The truth value of an integer comparison, widened and turned into a float. -/
theorem bit_float (b : BitVec 1) (p : Prop) [Decidable p] (h : b = if p then 1#1 else 0#1) :
    (FloatOps.sitofp (F := Ideal) .f32 (BitVec.setWidth 32 b) : EReal) = if p then 1 else 0 := by
  subst h
  by_cases hp : p <;> simp [hp, FloatOps.sitofp]

/-- Two small numbers compared as words: one when they are equal, else zero. -/
theorem eq_float (a b : ℕ) (ha : a < 2 ^ 32) (hb : b < 2 ^ 32) :
    (FloatOps.sitofp (F := Ideal) .f32 (BitVec.setWidth 32 (IntOp.cmpi .eq (BitVec.ofNat 32 a) (BitVec.ofNat 32 b))) : EReal)
      = if a = b then 1 else 0 := by
  refine bit_float _ _ ?_
  have hw : (BitVec.ofNat 32 a = BitVec.ofNat 32 b) ↔ a = b := by
    constructor
    · intro h
      have h' := congrArg BitVec.toNat h
      rwa [BitVec.toNat_ofNat, BitVec.toNat_ofNat, Nat.mod_eq_of_lt ha, Nat.mod_eq_of_lt hb] at h'
    · rintro rfl; rfl
  by_cases h : a = b
  · subst h; simp [IntOp.cmpi]
  · rw [if_neg h]
    show BitVec.ofBool (BitVec.ofNat 32 a == BitVec.ofNat 32 b) = 0#1
    rw [beq_eq_false_iff_ne.mpr (mt hw.mp h)]; rfl

/-- A sum against a row that is one at a single place. -/
theorem sum_one_hot {n : ℕ} (f : Fin n → EReal) (t : Fin n) : (∑ x, f x * (if x.val = t.val then 1 else 0)) = f t := by
  rw [Finset.sum_eq_single t]
  · simp
  · intro x _ hx
    rw [if_neg (fun h => hx (Fin.ext h)), mul_zero]
  · intro h; exact absurd (Finset.mem_univ t) h

/-- The weights that pick the numeric half's mean. -/
theorem pay1_apply (k i : Fin 64) : (k0_pay1 : FVec Ideal S64x64 .bf16) (ix2 k i)
    = (if 32 ≤ k.val then ((1 / 32 : ℝ) : EReal) else 0) := by
  pointwise [k0_pay1]
  have hb : IntOp.cmpi .sge (BitVec.ofNat 32 k.val) 32#32 = if 32 ≤ k.val then 1#1 else 0#1 := by
    revert k; decide +kernel
  refine (congrArg₂ (fun a b : EReal => a * b) (bit_float _ _ hb) lit_inv32).trans ?_
  split <;> simp

/-- The weights that pick a sixty-fourth of the categorical half's sum. -/
theorem pay2_apply (k i : Fin 64) : (k0_pay2 : FVec Ideal S64x64 .bf16) (ix2 k i)
    = (if k.val < 32 then ((1 / 64 : ℝ) : EReal) else 0) := by
  pointwise [k0_pay2]
  have hb : IntOp.cmpi .slt (BitVec.ofNat 32 k.val) 32#32 = if k.val < 32 then 1#1 else 0#1 := by
    revert k; decide +kernel
  refine (congrArg₂ (fun a b : EReal => a * b) (bit_float _ _ hb) lit_inv64).trans ?_
  split <;> simp

/-- The first projection of the table. -/
theorem pay3_apply (w : FVec Ideal S32x21 .f32) (e : FVec Ideal S21x11 .f32) (h : Fin 32) (t : Fin 11) :
    (k0_pay3 w e : FVec Ideal S32x11 .f32) (ix2 h t) = ∑ x : Fin 21, w (ix2 h x) * e (ix2 x t) := by
  pointwise [k0_pay3]

/-- The second projection of the table. -/
theorem pay4_apply (w : FVec Ideal S32x21 .f32) (e : FVec Ideal S21x3 .f32) (h : Fin 32) (t : Fin 3) :
    (k0_pay4 w e : FVec Ideal S32x3 .f32) (ix2 h t) = ∑ x : Fin 21, w (ix2 h x) * e (ix2 x t) := by
  pointwise [k0_pay4]

/-- The tag that a column of the table stands for, as the kernel's floor division computes it. -/
theorem div_word (c : Fin 40) : Scalar.select
            (IntOp.andi
              (IntOp.cmpi CmpIPredicate.ne
                (IntOp.subi (BitVec.setWidth 32 (IntOp.cmpi CmpIPredicate.sgt (BitVec.ofNat 32 c.val) 0#32))
                  (BitVec.setWidth 32 (IntOp.cmpi CmpIPredicate.slt (BitVec.ofNat 32 c.val) 0#32)))
                (Scalar.subi (Scalar.extui (Scalar.cmpi CmpIPredicate.sgt 3#32 0#32))
                  (Scalar.extui (Scalar.cmpi CmpIPredicate.slt 3#32 0#32))))
              (IntOp.cmpi CmpIPredicate.ne (IntOp.remsi ArithUnit.vector (BitVec.ofNat 32 c.val) 3#32) 0#32))
            (IntOp.subi (IntOp.divsi ArithUnit.vector (BitVec.ofNat 32 c.val) 3#32) 1#32)
            (IntOp.divsi ArithUnit.vector (BitVec.ofNat 32 c.val) 3#32) = BitVec.ofNat 32 (c.val / 3) := by
  revert c; decide +kernel

/-- The interaction that a column of the table stands for, as the kernel's remainder computes it. -/
theorem mod_word (c : Fin 40) : Scalar.select
      (IntOp.andi
        (IntOp.xori
          (IntOp.cmpi CmpIPredicate.slt
            (IntOp.remsi ArithUnit.vector (BitVec.ofNat 32 c.val)
              (Scalar.select (Scalar.cmpi CmpIPredicate.eq 3#32 0#32) 1#32 3#32))
            0#32)
          (Scalar.cmpi CmpIPredicate.slt
            (Scalar.select (Scalar.cmpi CmpIPredicate.eq 3#32 0#32) 1#32 3#32) 0#32))
        (IntOp.cmpi CmpIPredicate.ne
          (IntOp.remsi ArithUnit.vector (BitVec.ofNat 32 c.val)
            (Scalar.select (Scalar.cmpi CmpIPredicate.eq 3#32 0#32) 1#32 3#32))
          0#32))
      (IntOp.addi
        (IntOp.remsi ArithUnit.vector (BitVec.ofNat 32 c.val)
          (Scalar.select (Scalar.cmpi CmpIPredicate.eq 3#32 0#32) 1#32 3#32))
        (Scalar.select (Scalar.cmpi CmpIPredicate.eq 3#32 0#32) 1#32 3#32))
      (IntOp.remsi ArithUnit.vector (BitVec.ofNat 32 c.val)
        (Scalar.select (Scalar.cmpi CmpIPredicate.eq 3#32 0#32) 1#32 3#32)) = BitVec.ofNat 32 (c.val % 3) := by
  revert c; decide +kernel

/-- The one-hot matrix of a column's tag. -/
theorem pay5_apply (t : Fin 11) (c : Fin 40) :
    (k0_pay5 : FVec Ideal S11x40 .f32) (ix2 t c) = (if t.val = c.val / 3 then (1 : EReal) else 0) := by
  pointwise [k0_pay5]
  rw [div_word]
  exact eq_float _ _ (by omega) (by omega)

/-- The un-normalised column of a table: both one-hot products and the bias. -/
def preCol (v4 : FVec Ideal S32x11 .f32) (v9 : FVec Ideal S32x3 .f32) (v38 : FVec Ideal S11x40 .f32)
    (v63 : FVec Ideal S32x1 .f32) (c : Fin 40) (h : Fin 32) : EReal :=
  (∑ x : Fin 11, v4 (ix2 h x) * v38 (ix2 x c)) + (∑ x : Fin 3, v9 (ix2 h x) *
    (FloatOps.sitofp (F := Ideal) .f32 (BitVec.setWidth 32 (IntOp.cmpi .eq (BitVec.ofNat 32 x.val) (Scalar.select
      (IntOp.andi
        (IntOp.xori
          (IntOp.cmpi CmpIPredicate.slt
            (IntOp.remsi ArithUnit.vector (BitVec.ofNat 32 c.val)
              (Scalar.select (Scalar.cmpi CmpIPredicate.eq 3#32 0#32) 1#32 3#32))
            0#32)
          (Scalar.cmpi CmpIPredicate.slt
            (Scalar.select (Scalar.cmpi CmpIPredicate.eq 3#32 0#32) 1#32 3#32) 0#32))
        (IntOp.cmpi CmpIPredicate.ne
          (IntOp.remsi ArithUnit.vector (BitVec.ofNat 32 c.val)
            (Scalar.select (Scalar.cmpi CmpIPredicate.eq 3#32 0#32) 1#32 3#32))
          0#32))
      (IntOp.addi
        (IntOp.remsi ArithUnit.vector (BitVec.ofNat 32 c.val)
          (Scalar.select (Scalar.cmpi CmpIPredicate.eq 3#32 0#32) 1#32 3#32))
        (Scalar.select (Scalar.cmpi CmpIPredicate.eq 3#32 0#32) 1#32 3#32))
      (IntOp.remsi ArithUnit.vector (BitVec.ofNat 32 c.val)
        (Scalar.select (Scalar.cmpi CmpIPredicate.eq 3#32 0#32) 1#32 3#32))))) : EReal)) + v63 (ix2 h 0)

/-- A column of the table normalised over its thirty-two entries. -/
theorem pay6_apply (v4 : FVec Ideal S32x11 .f32) (v9 : FVec Ideal S32x3 .f32) (v38 : FVec Ideal S11x40 .f32)
    (v63 : FVec Ideal S32x1 .f32) (h : Fin 32) (c : Fin 40) :
    (k0_pay6 v4 v9 v38 (iota .tc S3x40 32 [1] iota_S3x40_d1_w32) 3#32 (Scalar.cmpi .eq 3#32 0#32) v63
      : FVec Ideal S32x40 .f32) (ix2 h c)
      = lnKer ((32 : ℝ) : EReal) (eps : EReal) (preCol v4 v9 v38 v63 c) h := by
  rw [← lit_32, ← lit_eps]
  pointwise [k0_pay6]
  rfl

/-- The column of a tag and an interaction before it is normalised, over the transposed embeddings. -/
def colOf (x0 : FVec Ideal S21x11 .f32) (x1 : FVec Ideal S21x3 .f32) (x2 x3 : FVec Ideal S32x21 .f32)
    (x4 : FVec Ideal S32x1 .f32) (t : Fin 11) (q : Fin 3) (h : Fin 32) : EReal :=
  ((∑ k : Fin 21, x2 (ix2 h k) * x0 (ix2 k t)) + ∑ k : Fin 21, x3 (ix2 h k) * x1 (ix2 k q)) + x4 (ix2 h 0)

/-- The column `3t + q` before it is normalised. -/
theorem preCol_eq (x0 : FVec Ideal S21x11 .f32) (x1 : FVec Ideal S21x3 .f32) (x2 x3 : FVec Ideal S32x21 .f32)
    (x4 : FVec Ideal S32x1 .f32) (t : Fin 11) (q : Fin 3) (hc : 3 * t.val + q.val < 40) (h : Fin 32) :
    preCol (k0_pay3 x2 x0) (k0_pay4 x3 x1) k0_pay5 x4 ⟨3 * t.val + q.val, hc⟩ h = colOf x0 x1 x2 x3 x4 t q h := by
  unfold preCol colOf
  refine congrArg (· + x4 (ix2 h 0)) (congrArg₂ (fun a b : EReal => a + b) ?_ ?_)
  · refine (Finset.sum_congr rfl fun x _ => ?_).trans (sum_one_hot (fun t => ∑ k : Fin 21, x2 (ix2 h k) * x0 (ix2 k t)) t)
    refine congrArg₂ (fun a b : EReal => a * b) (pay3_apply x2 x0 h x) ((pay5_apply x _).trans ?_)
    have : (3 * t.val + q.val) / 3 = t.val := by omega
    simp only [this]
  · refine (Finset.sum_congr rfl fun x _ => ?_).trans (sum_one_hot (fun t => ∑ k : Fin 21, x3 (ix2 h k) * x1 (ix2 k t)) q)
    refine congrArg₂ (fun a b : EReal => a * b) (pay4_apply x3 x1 h x) ?_
    rw [mod_word]
    refine (eq_float _ _ (by omega) (by omega)).trans ?_
    have : (3 * t.val + q.val) % 3 = q.val := by omega
    simp only [this]

/-- The table of categorical rows: at column `3t + q` the upper half holds the normalised projected row of tag
`t` and interaction `q`, scaled and shifted, and the lower half zero. -/
theorem table_apply (x0 : FVec Ideal S21x11 .f32) (x1 : FVec Ideal S21x3 .f32) (x2 x3 : FVec Ideal S32x21 .f32)
    (x4 x5 x6 : FVec Ideal S32x1 .f32) (t : Fin 11) (q : Fin 3) (hc : 3 * t.val + q.val < 40) (i : Fin 64) :
    (k0_pay7 (k0_pay6 (k0_pay3 x2 x0) (k0_pay4 x3 x1) k0_pay5 (iota .tc S3x40 32 [1] iota_S3x40_d1_w32) 3#32
        (Scalar.cmpi .eq 3#32 0#32) x4) x5 x6 : FVec Ideal S64x40 .bf16) (ix2 i ⟨3 * t.val + q.val, hc⟩)
      = join (fun h => lnKer ((32 : ℝ) : EReal) (eps : EReal) (colOf x0 x1 x2 x3 x4 t q) h * x5 (ix2 h 0) + x6 (ix2 h 0))
        (fun _ => 0) i := by
  have h6 := fun h => pay6_apply (k0_pay3 x2 x0) (k0_pay4 x3 x1) k0_pay5 x4 h ⟨3 * t.val + q.val, hc⟩
  rw [show preCol (k0_pay3 x2 x0) (k0_pay4 x3 x1) k0_pay5 x4 ⟨3 * t.val + q.val, hc⟩ = colOf x0 x1 x2 x3 x4 t q from
    funext fun h => preCol_eq x0 x1 x2 x3 x4 t q hc h] at h6
  generalize k0_pay6 (F := Ideal) (k0_pay3 x2 x0) (k0_pay4 x3 x1) k0_pay5 (iota .tc S3x40 32 [1] iota_S3x40_d1_w32) 3#32
        (Scalar.cmpi .eq 3#32 0#32) x4 = v at h6 ⊢
  pointwise [k0_pay7]
  refine dite_congr rfl (fun hi => ?_) fun hi => rfl
  exact congrArg (· + _) (congrArg (· * _) (h6 _))

/-- The numeric weights, centred over the hidden index, with the centred bias as a fourth row; the first
thirty-two columns are zero. -/
theorem pay8_apply (w : FVec Ideal S32x3 .f32) (b : FVec Ideal S32x1 .f32) (k : Fin 4) (i : Fin 64) :
    (k0_pay8 w w b b : FVec Ideal S4x64 .f32) (ix2 k i)
      = join (fun _ => 0) (fun h => if hk : k.val < 3 then dev ((32 : ℝ) : EReal) (fun j => w (ix2 j ⟨k.val, hk⟩)) h
        else dev ((32 : ℝ) : EReal) (fun j => b (ix2 j 0)) h) i := by
  rw [← lit_32]
  pointwise [k0_pay8]
  refine dite_congr rfl (fun hi => rfl) fun hi => ?_
  refine dite_congr rfl (fun hk => rfl) fun hk => ?_
  have : k.val - 3 = 0 := by omega
  simp only [dev, this]
  rfl

end Cert.KernelIdeal.Value

end
-- ==== Proof.Block.lean ====
/- What one block of the second kernel computes, element by element. -/
module

public import proofs.«01_k».proof.Proof.Table

@[expose] public section

set_option maxRecDepth 16384

noncomputable section

namespace Cert.KernelIdeal.Value

open Idealize.ShloMosaic Idealize.ShloMosaic.TcCoe Idealize.SL.Sem
open Cert.Proof Cert.KernelIdeal.Gen

/-- The rows of one batch element lie inside the one-hot matrix. -/
theorem slices_part (b : Fin 64) : S2560x200.Slices ![40 * b.val, 0] S40x200 := by
  revert b; decide +kernel

/-- The looked-up rows of one batch element: its one-hot matrix against the table. -/
def part (v14 : FVec Ideal S2560x200 .bf16) (v16 : FVec Ideal S64x40 .bf16) (b : Fin 64) : FVec Ideal S200x64 .f32 :=
  matmul dot_S40x200_S64x40_S200x64_0_1_1_0_n_n none
    (extractStridedSlice S40x200 ![40 * b.val, 0] v14 (slices_part b)) v16 (constant S200x64 .f32 0x00000000#32)

/-- The looked-up rows of a block, one batch element after another, with the projected numbers added. -/
def blockVal (x0 x1 : IVec S64x200 32) (x2 : FVec Ideal S3x12800 .f32) (x3 : FVec Ideal S64x40 .bf16)
    (x4 : FVec Ideal S4x64 .f32) : FVec Ideal S12800x64 .f32 :=
  addf (concatenate S12800x64 0 (List.ofFn fun b : Fin 64 =>
      (⟨S200x64, part (k1_pay2 x0 x1) (k1_pay3 x3) b⟩ : (s : Shape) × (s.Idx → EReal)))
      concatenates_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S200x64_S12800x64_d0)
    (matmul dot_S4x12800_S4x64_S12800x64_0_0_1_1_n_n none
      (concatenate S4x12800 0 [⟨S3x12800, shapeCast S3x12800 x2 shapeCasts_S3x12800_S3x12800⟩,
        ⟨S1x12800, broadcast S1x12800 (Scalar.ofBits .f32 0x3F800000#32)⟩] concatenates_S3x12800_S1x12800_S4x12800_d0)
      (shapeCast S4x64 x4 shapeCasts_S4x64_S4x64) (constant S12800x64 .f32 0x00000000#32))

/-- One block of the second kernel's result. -/
def blockOut (x0 x1 : IVec S64x200 32) (x2 : FVec Ideal S3x12800 .f32) (x3 : FVec Ideal S64x40 .bf16)
    (x4 : FVec Ideal S4x64 .f32) (x5 x6 : FVec Ideal S64x64 .bf16) : FVec Ideal S12800x64 .f32 :=
  k1_pay1 (blockVal x0 x1 x2 x3 x4) (truncf .bf16 (blockVal x0 x1 x2 x3 x4) bitsLt_bf16_f32)
    (mulf (truncf .bf16 (blockVal x0 x1 x2 x3 x4) bitsLt_bf16_f32) (truncf .bf16 (blockVal x0 x1 x2 x3 x4) bitsLt_bf16_f32))
    (matmul dot_S12800x64_S64x64_S12800x64_1_0_0_1_n_n none
      (mulf (truncf .bf16 (blockVal x0 x1 x2 x3 x4) bitsLt_bf16_f32) (truncf .bf16 (blockVal x0 x1 x2 x3 x4) bitsLt_bf16_f32))
      (shapeCast S64x64 x5 shapeCasts_S64x64_S64x64) (constant S12800x64 .f32 0x00000000#32)) x6 x6

/-- The rows of one batch element, entry by entry. -/
theorem part_apply (v14 : FVec Ideal S2560x200 .bf16) (v16 : FVec Ideal S64x40 .bf16) (b : Fin 64) (l : Fin 200) (i : Fin 64) :
    part v14 v16 b (ix2 l i) = ∑ k : Fin 40, v14 (ix2 ⟨40 * b.val + k.val, by omega⟩ l) * v16 (ix2 i k) := by
  pointwise [part]

/-- The class of a tag and an interaction, as the kernel's word arithmetic computes it. -/
theorem class_word (t : Fin 11) (q : Fin 3) :
    IntOp.addi (IntOp.muli (BitVec.ofNat 32 t.val) 3#32) (BitVec.ofNat 32 q.val) = BitVec.ofNat 32 (3 * t.val + q.val) := by
  revert t q; decide +kernel

/-- The one-hot matrix of a block's classes, a batch element's forty rows after another's. -/
theorem pay2_onehot (x0 x1 : IVec S64x200 32) (b : Fin 64) (k : Fin 40) (l : Fin 200) (t : Fin 11) (q : Fin 3)
    (h0 : x0 (ix2 b l) = BitVec.ofNat 32 t.val) (h1 : x1 (ix2 b l) = BitVec.ofNat 32 q.val) :
    (k1_pay2 x0 x1 : FVec Ideal S2560x200 .bf16) (ix2 ⟨40 * b.val + k.val, by omega⟩ l)
      = (if k.val = 3 * t.val + q.val then (1 : EReal) else 0) := by
  pointwise [k1_pay2]
  rw [h0, h1, class_word]
  refine (eq_float _ _ (by omega) (by omega)).trans ?_
  simp only [eq_comm]

/-- The last steps of the kernel on a row: the mixed normalisation of the joined row. -/
theorem pay1_row (v : FVec Ideal S12800x64 .f32) (x5 x6 : FVec Ideal S64x64 .bf16)
    (h5 : ∀ k i : Fin 64, x5 (ix2 k i) = (if 32 ≤ k.val then ((1 / 32 : ℝ) : EReal) else 0))
    (h6 : ∀ k i : Fin 64, x6 (ix2 k i) = (if k.val < 32 then ((1 / 64 : ℝ) : EReal) else 0))
    (r : Fin 12800) (i : Fin 64) :
    (k1_pay1 v (truncf .bf16 v bitsLt_bf16_f32)
      (mulf (truncf .bf16 v bitsLt_bf16_f32) (truncf .bf16 v bitsLt_bf16_f32))
      (matmul dot_S12800x64_S64x64_S12800x64_1_0_0_1_n_n none
        (mulf (truncf .bf16 v bitsLt_bf16_f32) (truncf .bf16 v bitsLt_bf16_f32))
        (shapeCast S64x64 x5 shapeCasts_S64x64_S64x64) (constant S12800x64 .f32 0x00000000#32)) x6 x6
      : FVec Ideal S12800x64 .f32) (ix2 r i) = kerRow (fun k => v (ix2 r k)) i := by
  have hs : ∀ z : EReal, Scalar.select (IntOp.cmpi .slt (BitVec.ofNat 32 i.val) 32#32) 1 z = if i.val < 32 then 1 else z := by
    intro z
    have hb : IntOp.cmpi .slt (BitVec.ofNat 32 i.val) 32#32 = if i.val < 32 then 1#1 else 0#1 := by
      revert i; decide +kernel
    rw [hb]; split <;> rfl
  pointwise [k1_pay1]
  simp only [h5, h6, hs]
  rw [kerRow, ← lit_eps, ← lit_half, ← lit_half_eps]

theorem num_apply (x0 x1 : IVec S64x200 32) (x2 : FVec Ideal S3x12800 .f32) (x3 : FVec Ideal S64x40 .bf16)
    (x4 : FVec Ideal S4x64 .f32) (r : Fin 12800) (i : Fin 64) :
    (matmul dot_S4x12800_S4x64_S12800x64_0_0_1_1_n_n none
      (concatenate S4x12800 0 [⟨S3x12800, shapeCast S3x12800 x2 shapeCasts_S3x12800_S3x12800⟩,
        ⟨S1x12800, broadcast S1x12800 (Scalar.ofBits .f32 0x3F800000#32)⟩] concatenates_S3x12800_S1x12800_S4x12800_d0)
      (shapeCast S4x64 x4 shapeCasts_S4x64_S4x64) (constant S12800x64 .f32 0x00000000#32) : FVec Ideal S12800x64 .f32) (ix2 r i)
      = ∑ k : Fin 4, (if h : k.val < 3 then x2 (ix2 ⟨k.val, h⟩ r) else 1) * x4 (ix2 k i) := by
  pointwise

/-- The row that position `l` of batch element `b` has in a block. -/
def rowOf (b : Fin 64) (l : Fin 200) : Fin 12800 := ⟨200 * b.val + l.val, by omega⟩

/-- A row of a block before the last steps: the table's column of the row's class, plus the projected numbers. -/
theorem val_apply (x0 x1 : IVec S64x200 32) (x2 : FVec Ideal S3x12800 .f32) (x3 : FVec Ideal S64x40 .bf16)
    (x4 : FVec Ideal S4x64 .f32) (b : Fin 64) (l : Fin 200) (t : Fin 11) (q : Fin 3) (hc : 3 * t.val + q.val < 40)
    (h0 : x0 (ix2 b l) = BitVec.ofNat 32 t.val) (h1 : x1 (ix2 b l) = BitVec.ofNat 32 q.val) (i : Fin 64) :
    blockVal x0 x1 x2 x3 x4 (ix2 (rowOf b l) i)
      = x3 (ix2 i ⟨3 * t.val + q.val, hc⟩)
        + ∑ k : Fin 4, (if h : k.val < 3 then x2 (ix2 ⟨k.val, h⟩ (rowOf b l)) else 1) * x4 (ix2 k i) := by
  refine congrArg₂ (fun a b : EReal => a + b) ?_ (num_apply x0 x1 x2 x3 x4 (rowOf b l) i)
  have hj : ((rowOf b l).val) / 200 = b.val := by show (200 * b.val + l.val) / 200 = _; omega
  have hm : l.val = ((rowOf b l).val) % 200 := by show _ = (200 * b.val + l.val) % 200; omega
  refine (concatenate_ofFn_apply (t := S12800x64) (s₁ := S200x64) 0 (fun b : Fin 64 => part (k1_pay2 x0 x1) (k1_pay3 x3) b)
    _ rfl 200 rfl (ix2 (rowOf b l) i) b hj (ix2 l i) hm ?_).trans ?_
  · intro a ha
    match a with
    | ⟨0, _⟩ => exact absurd rfl ha
    | ⟨1, _⟩ => rfl
  · refine (part_apply _ _ b l i).trans ?_
    have e : ∀ k : Fin 40, (k1_pay2 x0 x1 : FVec Ideal S2560x200 .bf16) (ix2 ⟨40 * b.val + k.val, by omega⟩ l)
        * (k1_pay3 x3 : FVec Ideal S64x40 .bf16) (ix2 i k)
        = x3 (ix2 i k) * (if k.val = (⟨3 * t.val + q.val, hc⟩ : Fin 40).val then 1 else 0) := by
      intro k
      rw [pay2_onehot x0 x1 b k l t q h0 h1, mul_comm]
      refine congrArg (· * _) ?_
      pointwise [k1_pay3]
    exact (Finset.sum_congr rfl fun k _ => e k).trans (sum_one_hot (fun k => x3 (ix2 i k)) ⟨3 * t.val + q.val, hc⟩)

set_option backward.isDefEq.respectTransparency.types false in
/-- The block the second kernel's body leaves is `blockOut` of its input blocks. -/
theorem out_eq (x0 x1 : Vec Ideal S64x200 .i32) (x2 : Vec Ideal S3x12800 .f32) (x3 : Vec Ideal S64x40 .bf16)
    (x4 : Vec Ideal S4x64 .f32) (x5 x6 : Vec Ideal S64x64 .bf16) :
    out1_7 x0 x1 x2 x3 x4 x5 x6 = blockOut x0 x1 x2 x3 x4 x5 x6 := by
  have z : ∀ {s : Shape} (o : Fin s.rank → ℕ), (∀ a, o a = 0) → o = fun _ => 0 := fun o h => funext h
  unfold_out out1_7
  refine (View.canon_unit_zero (S := S12800x64) (z _ (by decide)) _ _).trans ?_
  rw [View.ld_unit_zero (S := S64x200) (z _ (by decide)) _ x0, View.ld_unit_zero (S := S64x200) (z _ (by decide)) _ x1,
    View.ld_unit_zero (S := S3x12800) (z _ (by decide)) _ x2, View.ld_unit_zero (S := S64x40) (z _ (by decide)) _ x3,
    View.ld_unit_zero (S := S4x64) (z _ (by decide)) _ x4, View.ld_unit_zero (S := S64x64) (z _ (by decide)) _ x5,
    View.ld_unit_zero (S := S64x64) (z _ (by decide)) _ x6]
  rfl

end Cert.KernelIdeal.Value

end
-- ==== Proof.Take.lean ====
/- Rows taken from a table: `stablehlo.gather` with one row index per result row, read at an element. -/
module

public import Idealize.ShloMosaic.Lib.Pointwise

@[expose] public section

noncomputable section

namespace Cert.Proof

open Idealize.ShloMosaic

/-- The dimension numbers of a gather that takes whole rows of a table `[N, D]` at row indices `[B, L, 1]`. -/
abbrev rowDims (N D B L : Nat)
    (wf : GatherDims.WF ⟨2, ![N, D]⟩ ⟨3, ![B, L, 1]⟩ ⟨3, ![B, L, D]⟩ [2] [0] [] [0] [] 2 ![1, D]) :
    GatherDims ⟨2, ![N, D]⟩ ⟨3, ![B, L, 1]⟩ ⟨3, ![B, L, D]⟩ where
  offsetDims := [2]
  collapsedSliceDims := [0]
  operandBatchingDims := []
  startIndicesBatchingDims := []
  startIndexMap := [0]
  indexVectorDim := 2
  sliceSizes := ![1, D]
  wf := wf

/-- Taking rows, read at `(b, l, k)`: element `k` of the row named by the index word at `(b, l)`, the word read signed
    and clamped to the table. -/
theorem gather_row_apply {α : Type} {N D B L w : Nat} (hN : 0 < N)
    (wf : GatherDims.WF ⟨2, ![N, D]⟩ ⟨3, ![B, L, 1]⟩ ⟨3, ![B, L, D]⟩ [2] [0] [] [0] [] 2 ![1, D])
    (x : (⟨2, ![N, D]⟩ : Shape).Idx → α) (idx : IVec ⟨3, ![B, L, 1]⟩ w) (b : Fin B) (l : Fin L) (k : Fin D) :
    Host.gather (rowDims N D B L wf) x idx (ix3 b l k)
      = x (ix2 ⟨min (idx (ix3 b l 0)).toInt.toNat (N - 1), by omega⟩ k) := by
  unfold Host.gather
  congr 1
  funext a
  refine Fin.ext ?_
  show (rowDims N D B L wf).start (ix3 b l k) idx a + (rowDims N D B L wf).batchCoord (ix3 b l k) a
    + (rowDims N D B L wf).offCoord (ix3 b l k) a = _
  rw [GatherDims.batchCoord_eq_zero _ _ _ List.not_mem_nil]
  match a with
  | ⟨0, _⟩ =>
    rw [GatherDims.offCoord_eq_zero _ _ _
      (fun h => ((GatherDims.mem_sKept _ _).mp h).1 (List.mem_singleton.mpr rfl))]
    unfold GatherDims.start
    rw [dif_pos (show (⟨0, _⟩ : Fin 2) ∈ (rowDims N D B L wf).startIndexMap from List.mem_singleton.mpr rfl)]
    have hsi : (rowDims N D B L wf).siIdx (ix3 b l k) ⟨List.idxOf (⟨0, by decide⟩ : Fin 2) (rowDims N D B L wf).startIndexMap,
        List.idxOf_lt_length_iff.2 (List.mem_singleton.mpr rfl)⟩ = ix3 b l 0 := by
      funext c; refine Fin.ext ?_
      match c with
      | ⟨0, _⟩ => rfl
      | ⟨1, _⟩ => rfl
      | ⟨2, _⟩ => rfl
    rw [hsi]
    rfl
  | ⟨1, _⟩ =>
    have h1 : (rowDims N D B L wf).start (ix3 b l k) idx ⟨1, Nat.one_lt_two⟩ = 0 := by
      unfold GatherDims.start
      exact dif_neg (show (⟨1, by decide⟩ : Fin 2) ∉ [(0 : Fin 2)] by decide)
    rw [h1]
    show 0 + 0 + (rowDims N D B L wf).offCoord (ix3 b l k) ⟨1, Nat.one_lt_two⟩ = k.val
    rw [Nat.zero_add]
    rfl

/-- A conjunction of true bits is true. -/
theorem fold_andi_one {ι : Type} (s : Finset ι) : Finset.fold IntOp.andi (1#1) (fun _ : ι => 1#1) s = 1#1 := by
  classical
  induction s using Finset.induction_on with
  | empty => rfl
  | insert a s ha ih => rw [Finset.fold_insert ha, ih]; rfl

end Cert.Proof

end
-- ==== Proof.RefRows.lean ====
/- What the reference computes, read at one element. -/
module

public import proofs.«01_k».proof.Proof.Gen.ReferenceIdeal.Run
public import proofs.«01_k».proof.Proof.Mix
public import proofs.«01_k».proof.Proof.Take

@[expose] public section

set_option maxRecDepth 16384

noncomputable section

namespace Cert.ReferenceIdeal.Value

open Idealize.ShloMosaic Idealize.ShloMosaic.TcCoe Idealize.SL.Sem Idealize.ShloMosaic.StableHlo
open Cert.Proof Cert.ReferenceIdeal.Gen

variable (V : Valuation τ sig (Elt Ideal))

/-- The words of the tag argument, and of the interaction argument, as numbers of table rows. -/
def Rows (tag : Fin 4096 → Fin 200 → Fin 11) (int : Fin 4096 → Fin 200 → Fin 3) : Prop :=
  (∀ b l, (V (Proc.devRef .tc main_arg0) : IVec S4096x200 32) (ix2 b l) = BitVec.ofNat 32 (tag b l).val)
  ∧ ∀ b l, (V (Proc.devRef .tc main_arg1) : IVec S4096x200 32) (ix2 b l) = BitVec.ofNat 32 (int b l).val

/-- The tag words after the wrap of negative ones: unchanged. -/
theorem tag_word (t : Fin 11) : Scalar.select (IntOp.cmpi .slt (BitVec.ofNat 32 t.val) 0#32)
    (IntOp.addi (BitVec.ofNat 32 t.val) 11#32) (BitVec.ofNat 32 t.val) = BitVec.ofNat 32 t.val := by
  revert t; decide

/-- The interaction words after the wrap of negative ones: unchanged. -/
theorem int_word (t : Fin 3) : Scalar.select (IntOp.cmpi .slt (BitVec.ofNat 32 t.val) 0#32)
    (IntOp.addi (BitVec.ofNat 32 t.val) 3#32) (BitVec.ofNat 32 t.val) = BitVec.ofNat 32 t.val := by
  revert t; decide

/-- A tag word lies within its table. -/
theorem tag_in (t : Fin 11) : IntOp.andi (IntOp.cmpi .sge (BitVec.ofNat 32 t.val) 0#32)
    (IntOp.cmpi .sle (BitVec.ofNat 32 t.val) 10#32) = 1#1 := by
  revert t; decide

/-- An interaction word lies within its table. -/
theorem int_in (t : Fin 3) : IntOp.andi (IntOp.cmpi .sge (BitVec.ofNat 32 t.val) 0#32)
    (IntOp.cmpi .sle (BitVec.ofNat 32 t.val) 2#32) = 1#1 := by
  revert t; decide

/-- The row index that a tag word names. -/
theorem tag_row (t : Fin 11) : min (BitVec.ofNat 32 t.val).toInt.toNat (11 - 1) = t.val := by
  revert t; decide

/-- The row index that an interaction word names. -/
theorem int_row (t : Fin 3) : min (BitVec.ofNat 32 t.val).toInt.toNat (3 - 1) = t.val := by
  revert t; decide

/-- A choice on a true bit takes the first value. -/
theorem select_of_one {α : Type} {c : BitVec 1} {a b : α} (h : c = 1#1) : Scalar.select c a b = a := by
  subst h; rfl

/-- A conjunction of bits each of which is true. -/
theorem fold_one {ι : Type} {f : ι → BitVec 1} {s : Finset ι} (h : ∀ x, f x = 1#1) :
    Finset.fold IntOp.andi (1#1) f s = 1#1 := by
  rw [show f = fun _ => 1#1 from funext h]; exact fold_andi_one s

/-- The row of the tag table that the reference looks up at a position. -/
theorem take_tag {tag int} (H : Rows V tag int) (b : Fin 4096) (l : Fin 200) (k : Fin 21) :
    (Host.gather gather_S11x21_S4096x200x1_S4096x200x21_2_0_n_n_0_2_121 (V (Proc.devRef .tc main_arg5))
      (res_main_call0_v5 V) : FVec Ideal S4096x200x21 .f32) (ix3 b l k)
      = (V (Proc.devRef .tc main_arg5) : FVec Ideal S11x21 .f32) (ix2 (tag b l) k) := by
  refine (gather_row_apply (by norm_num) _ _ _ b l k).trans ?_
  pointwise [res_main_call0_v5, H.1]
  refine congrArg (fun r => (V (Proc.devRef .tc main_arg5) : FVec Ideal S11x21 .f32) (ix2 r k)) (Fin.ext ?_)
  show min (BitVec.toInt _).toNat 10 = _
  rw [tag_word]
  exact tag_row _

/-- The row of the interaction table that the reference looks up at a position. -/
theorem take_int {tag int} (H : Rows V tag int) (b : Fin 4096) (l : Fin 200) (k : Fin 21) :
    (Host.gather gather_S3x21_S4096x200x1_S4096x200x21_2_0_n_n_0_2_121 (V (Proc.devRef .tc main_arg6))
      (res_main_call1_v5 V) : FVec Ideal S4096x200x21 .f32) (ix3 b l k)
      = (V (Proc.devRef .tc main_arg6) : FVec Ideal S3x21 .f32) (ix2 (int b l) k) := by
  refine (gather_row_apply (by norm_num) _ _ _ b l k).trans ?_
  pointwise [res_main_call1_v5, H.2]
  refine congrArg (fun r => (V (Proc.devRef .tc main_arg6) : FVec Ideal S3x21 .f32) (ix2 r k)) (Fin.ext ?_)
  show min (BitVec.toInt _).toNat 2 = _
  rw [int_word]
  exact int_row _

/-- The projected row of a tag's and an interaction's embeddings. -/
def catRow (E5 : FVec Ideal S11x21 .f32) (E6 : FVec Ideal S3x21 .f32) (W : FVec Ideal S42x32 .f32)
    (bc : FVec Ideal S32 .f32) (t : Fin 11) (q : Fin 3) (h : Fin 32) : EReal :=
  ((∑ k : Fin 21, E5 (ix2 t k) * W (ix2 ⟨k.val, by omega⟩ h))
    + ∑ k : Fin 21, E6 (ix2 q k) * W (ix2 ⟨21 + k.val, by omega⟩ h)) + bc (ix1 h)

/-- The reference's projected categorical row at a position. -/
theorem v6_apply {tag int} (H : Rows V tag int) (b : Fin 4096) (l : Fin 200) (h : Fin 32) :
    (res_main_v6 V : FVec Ideal S4096x200x32 .f32) (ix3 b l h)
      = catRow (V (Proc.devRef .tc main_arg5)) (V (Proc.devRef .tc main_arg6)) (V (Proc.devRef .tc main_arg7))
        (V (Proc.devRef .tc main_arg8)) (tag b l) (int b l) h := by
  pointwise [res_main_v6, res_main_call0_v5, res_main_call1_v5, H.1, H.2]
  refine congrArg (· + _) (congrArg₂ (· + ·) ?_ ?_)
  · refine Finset.sum_congr rfl fun k _ => congrArg (· * _) ((select_of_one (fold_one fun x => ?_)).trans (take_tag V H b l k))
    rw [tag_word]; exact tag_in _
  · refine Finset.sum_congr rfl fun k _ => congrArg (· * _) ((select_of_one (fold_one fun x => ?_)).trans (take_int V H b l k))
    rw [int_word]; exact int_in _

/-- The three numbers of a position: entry `3p + k` of the three arrays laid one after the other. -/
def numAt (e d a : FVec Ideal S4096x200 .f32) (b : Fin 4096) (l : Fin 200) (k : Fin 3) : EReal :=
  if h : (b.val * 600 + l.val * 3 + k.val) / 200 < 4096 then
    e (ix2 ⟨(b.val * 600 + l.val * 3 + k.val) / 200, h⟩ ⟨(b.val * 600 + l.val * 3 + k.val) % 200, by omega⟩)
  else if h' : (b.val * 600 + l.val * 3 + k.val) / 200 - 4096 < 4096 then
    d (ix2 ⟨(b.val * 600 + l.val * 3 + k.val) / 200 - 4096, h'⟩ ⟨(b.val * 600 + l.val * 3 + k.val) % 200, by omega⟩)
  else
    a (ix2 ⟨(b.val * 600 + l.val * 3 + k.val) / 200 - 4096 - 4096, by omega⟩
      ⟨(b.val * 600 + l.val * 3 + k.val) % 200, by omega⟩)

/-- The projected row of three numbers. -/
def numRow (x : Fin 3 → EReal) (W : FVec Ideal S3x32 .f32) (bn : FVec Ideal S32 .f32) (h : Fin 32) : EReal :=
  (∑ k : Fin 3, x k * W (ix2 k h)) + bn (ix1 h)

/-- The reference's projected numeric row at a position. -/
theorem v30_apply (b : Fin 4096) (l : Fin 200) (h : Fin 32) :
    (res_main_v30 V : FVec Ideal S4096x200x32 .f32) (ix3 b l h)
      = numRow (numAt (V (Proc.devRef .tc main_arg2)) (V (Proc.devRef .tc main_arg3)) (V (Proc.devRef .tc main_arg4)) b l)
        (V (Proc.devRef .tc main_arg11)) (V (Proc.devRef .tc main_arg12)) h := by
  pointwise [res_main_v30]
  rfl

end Cert.ReferenceIdeal.Value

end
-- ==== Proof.Host.lean ====
/- The kernel's host operations at an index: what the operands of its two launches hold, and how its result is the second
   launch's array under a three-axis index. -/
module

public import proofs.«01_k».proof.Proof.Gen.KernelIdeal.Frame
public import proofs.«01_k».proof.Proof.RefRows
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KernelIdeal.Value

open Idealize.ShloMosaic Idealize.ShloMosaic.TcCoe Idealize.ShloMosaic.Tactic
open Cert.KernelIdeal.Gen

/-- A position's place among all the positions. -/
abbrev flat (b : Fin 4096) (l : Fin 200) : Fin 819200 := ⟨200 * b.val + l.val, by omega⟩

variable (V : Valuation τ sig (Elt Ideal))

/-- The tag embedding, transposed. -/
theorem h_v3 (k : Fin 21) (t : Fin 11) :
    (StableHlo.after hostOps0 V (Proc.devRef .tc main_call0_v3) : FVec Ideal S21x11 .f32) (ix2 k t)
      = (V (Proc.devRef .tc main_arg5) : FVec Ideal S11x21 .f32) (ix2 t k) := by
  after_reads_at

/-- The interaction embedding, transposed. -/
theorem h_v4 (k : Fin 21) (t : Fin 3) :
    (StableHlo.after hostOps0 V (Proc.devRef .tc main_call0_v4) : FVec Ideal S21x3 .f32) (ix2 k t)
      = (V (Proc.devRef .tc main_arg6) : FVec Ideal S3x21 .f32) (ix2 t k) := by
  after_reads_at

/-- The tag half of the projection, transposed. -/
theorem h_v6 (k : Fin 21) (h : Fin 32) :
    (StableHlo.after hostOps0 V (Proc.devRef .tc main_call0_v6) : FVec Ideal S32x21 .f32) (ix2 h k)
      = (V (Proc.devRef .tc main_arg7) : FVec Ideal S42x32 .f32) (ix2 ⟨k.val, by omega⟩ h) := by
  after_reads_at

/-- The interaction half of the projection, transposed. -/
theorem h_v8 (k : Fin 21) (h : Fin 32) :
    (StableHlo.after hostOps0 V (Proc.devRef .tc main_call0_v8) : FVec Ideal S32x21 .f32) (ix2 h k)
      = (V (Proc.devRef .tc main_arg7) : FVec Ideal S42x32 .f32) (ix2 ⟨21 + k.val, by omega⟩ h) := by
  after_reads_at

/-- The bias of the projection, as a column. -/
theorem h_v9 (h : Fin 32) :
    (StableHlo.after hostOps0 V (Proc.devRef .tc main_call0_v9) : FVec Ideal S32x1 .f32) (ix2 h 0)
      = (V (Proc.devRef .tc main_arg8) : FVec Ideal S32 .f32) (ix1 h) := by
  after_reads_at

/-- The scale of the first normalisation, as a column. -/
theorem h_v10 (h : Fin 32) :
    (StableHlo.after hostOps0 V (Proc.devRef .tc main_call0_v10) : FVec Ideal S32x1 .f32) (ix2 h 0)
      = (V (Proc.devRef .tc main_arg9) : FVec Ideal S32 .f32) (ix1 h) := by
  after_reads_at

/-- The shift of the first normalisation, as a column. -/
theorem h_v11 (h : Fin 32) :
    (StableHlo.after hostOps0 V (Proc.devRef .tc main_call0_v11) : FVec Ideal S32x1 .f32) (ix2 h 0)
      = (V (Proc.devRef .tc main_arg10) : FVec Ideal S32 .f32) (ix1 h) := by
  after_reads_at

/-- The weights of the numbers, transposed. -/
theorem h_v12 (k : Fin 3) (h : Fin 32) :
    (StableHlo.after hostOps0 V (Proc.devRef .tc main_call0_v12) : FVec Ideal S32x3 .f32) (ix2 h k)
      = (V (Proc.devRef .tc main_arg11) : FVec Ideal S3x32 .f32) (ix2 k h) := by
  after_reads_at

/-- The bias of the numbers, as a column. -/
theorem h_v13 (h : Fin 32) :
    (StableHlo.after hostOps0 V (Proc.devRef .tc main_call0_v13) : FVec Ideal S32x1 .f32) (ix2 h 0)
      = (V (Proc.devRef .tc main_arg12) : FVec Ideal S32 .f32) (ix1 h) := by
  after_reads_at

/-- The three numbers of every position, position after position: entry `3p + k` of the three arrays laid one after the
    other. -/
theorem h_v2 (b : Fin 4096) (l : Fin 200) (k : Fin 3) :
    (StableHlo.after hostOps0 V (Proc.devRef .tc main_call0_v2) : FVec Ideal S3x819200 .f32) (ix2 k (flat b l))
      = Cert.ReferenceIdeal.Value.numAt (V (Proc.devRef .tc main_arg2) : FVec Ideal S4096x200 .f32) (V (Proc.devRef .tc main_arg3) : FVec Ideal S4096x200 .f32)
          (V (Proc.devRef .tc main_arg4) : FVec Ideal S4096x200 .f32) b l k := by
  after_reads_at
  unfold Cert.ReferenceIdeal.Value.numAt
  have e : (200 * b.val + l.val) * 3 + k.val = b.val * 600 + l.val * 3 + k.val := by ring
  simp only [e]
  rfl

/-- The result is the second launch's array, row `200 b + l` under the index `(b, l)`. -/
theorem h_out (b : Fin 4096) (l : Fin 200) (i : Fin 64) :
    (StableHlo.after hostOps2 V (Proc.devRef .tc main_v0) : FVec Ideal S4096x200x64 .f32) (ix3 b l i)
      = (V (Proc.devRef .tc main_call0_v15) : FVec Ideal S819200x64 .f32) (ix2 (flat b l) i) := by
  after_reads_at
  blk_ext

end Cert.KernelIdeal.Value
-- ==== Proof.Arrays.lean ====
/- What the first launch leaves in its four result arrays, from the arrays it reads. -/
module

public import proofs.«01_k».proof.Proof.Table
public import proofs.«01_k».proof.Proof.Host
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic
open Idealize.SL.Sem
open Cert.Proof Cert.KernelIdeal.Gen

variable (V : (c : Dev nD) → (b : Ref sig .tc) → Buf (Elt Ideal) ((c : Thread nD τ).loc b)) (c : Dev nD)

/-- The looked-up table's contents from what the first launch reads. -/
def tableVal (x0 : FVec Ideal S21x11 .f32) (x1 : FVec Ideal S21x3 .f32) (x2 x3 : FVec Ideal S32x21 .f32)
    (x4 x5 x6 : FVec Ideal S32x1 .f32) : FVec Ideal S64x40 .bf16 :=
  k0_pay7 (k0_pay6 (k0_pay3 x2 x0) (k0_pay4 x3 x1) k0_pay5 (iota .tc S3x40 32 [1] iota_S3x40_d1_w32) 3#32
    (Scalar.cmpi .eq 3#32 0#32) x4) x5 x6

/-- The first launch's store into the table, from its operand blocks. -/
theorem out9_eq (x0 : Vec Ideal S21x11 .f32) (x1 : Vec Ideal S21x3 .f32) (x2 x3 : Vec Ideal S32x21 .f32)
    (x4 x5 x6 : Vec Ideal S32x1 .f32) (x7 : Vec Ideal S32x3 .f32) (x8 : Vec Ideal S32x1 .f32) :
    out0_9 x0 x1 x2 x3 x4 x5 x6 x7 x8 = tableVal x0 x1 x2 x3 x4 x5 x6 := by
  have z : ∀ {s : Shape} (o : Fin s.rank → ℕ), (∀ a, o a = 0) → o = fun _ => 0 := fun o h => funext h
  unfold out0_9
  refine (View.canon_unit_zero (S := S64x40) (z _ (by decide)) _ _).trans ?_
  rw [View.ld_unit_zero (S := S21x11) (z _ (by decide)) _ x0, View.ld_unit_zero (S := S21x3) (z _ (by decide)) _ x1,
    View.ld_unit_zero (S := S32x21) (z _ (by decide)) _ x2, View.ld_unit_zero (S := S32x21) (z _ (by decide)) _ x3,
    View.ld_unit_zero (S := S32x1) (z _ (by decide)) _ x4, View.ld_unit_zero (S := S32x1) (z _ (by decide)) _ x5,
    View.ld_unit_zero (S := S32x1) (z _ (by decide)) _ x6]
  rfl

/-- The first launch's store of the centred weights. -/
theorem out10_eq (x0 : Vec Ideal S21x11 .f32) (x1 : Vec Ideal S21x3 .f32) (x2 x3 : Vec Ideal S32x21 .f32)
    (x4 x5 x6 : Vec Ideal S32x1 .f32) (x7 : Vec Ideal S32x3 .f32) (x8 : Vec Ideal S32x1 .f32) :
    out0_10 x0 x1 x2 x3 x4 x5 x6 x7 x8 = k0_pay8 x7 x7 x8 x8 := by
  have z : ∀ {s : Shape} (o : Fin s.rank → ℕ), (∀ a, o a = 0) → o = fun _ => 0 := fun o h => funext h
  unfold out0_10
  refine (View.canon_unit_zero (S := S4x64) (z _ (by decide)) _ _).trans ?_
  rw [View.ld_unit_zero (S := S32x3) (z _ (by decide)) _ x7, View.ld_unit_zero (S := S32x1) (z _ (by decide)) _ x8]

/-- The first launch's store of the second half's averaging matrix. -/
theorem out11_eq (x0 : Vec Ideal S21x11 .f32) (x1 : Vec Ideal S21x3 .f32) (x2 x3 : Vec Ideal S32x21 .f32)
    (x4 x5 x6 : Vec Ideal S32x1 .f32) (x7 : Vec Ideal S32x3 .f32) (x8 : Vec Ideal S32x1 .f32) :
    out0_11 x0 x1 x2 x3 x4 x5 x6 x7 x8 = k0_pay1 (F := Ideal) := by
  have z : ∀ {s : Shape} (o : Fin s.rank → ℕ), (∀ a, o a = 0) → o = fun _ => 0 := fun o h => funext h
  unfold out0_11
  exact View.canon_unit_zero (S := S64x64) (z _ (by decide)) _ _

/-- The first launch's store of the first half's averaging matrix. -/
theorem out12_eq (x0 : Vec Ideal S21x11 .f32) (x1 : Vec Ideal S21x3 .f32) (x2 x3 : Vec Ideal S32x21 .f32)
    (x4 x5 x6 : Vec Ideal S32x1 .f32) (x7 : Vec Ideal S32x3 .f32) (x8 : Vec Ideal S32x1 .f32) :
    out0_12 x0 x1 x2 x3 x4 x5 x6 x7 x8 = k0_pay2 (F := Ideal) := by
  have z : ∀ {s : Shape} (o : Fin s.rank → ℕ), (∀ a, o a = 0) → o = fun _ => 0 := fun o h => funext h
  unfold out0_12
  exact View.canon_unit_zero (S := S64x64) (z _ (by decide)) _ _

/-- Every window of the first launch stands at the origin of its array. -/
theorem idx0 : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

/-- The first launch's nine operand blocks are the operand arrays. -/
theorem blk0 : iblk0 V c 0 t0_0 = V c main_call0_v3 ∧ iblk0 V c 1 t0_0 = V c main_call0_v4
    ∧ iblk0 V c 2 t0_0 = V c main_call0_v6 ∧ iblk0 V c 3 t0_0 = V c main_call0_v8 ∧ iblk0 V c 4 t0_0 = V c main_call0_v9
    ∧ iblk0 V c 5 t0_0 = V c main_call0_v10 ∧ iblk0 V c 6 t0_0 = V c main_call0_v11
    ∧ iblk0 V c 7 t0_0 = V c main_call0_v12 ∧ iblk0 V c 8 t0_0 = V c main_call0_v13 := by
  refine ⟨?_, ?_, ?_, ?_, ?_, ?_, ?_, ?_, ?_⟩ <;>
  · funext j
    blk_ext [iblk0, idx0 t0_0]

set_option backward.isDefEq.respectTransparency.types false in
/-- The looked-up table after the first launch. -/
theorem arr9 : (dat0 V c).arrAt 9 cfg0.N = tableVal (V c main_call0_v3) (V c main_call0_v4) (V c main_call0_v6)
    (V c main_call0_v8) (V c main_call0_v9) (V c main_call0_v10) (V c main_call0_v11) := by
  obtain ⟨h0, h1, h2, h3, h4, h5, h6, -, -⟩ := blk0 V c
  refine (dat0 V c).arrAt_eq_of_after_last 9 t0_0 (by decide +kernel) _ fun j => ?_
  blk_simp
  rw [after0_9, out9_eq, h0, h1, h2, h3, h4, h5, h6]

set_option backward.isDefEq.respectTransparency.types false in
/-- The centred weights after the first launch. -/
theorem arr10 : (dat0 V c).arrAt 10 cfg0.N
    = k0_pay8 (V c main_call0_v12) (V c main_call0_v12) (V c main_call0_v13) (V c main_call0_v13) := by
  obtain ⟨-, -, -, -, -, -, -, h7, h8⟩ := blk0 V c
  refine (dat0 V c).arrAt_eq_of_after_last 10 t0_0 (by decide +kernel) _ fun j => ?_
  blk_simp
  rw [after0_10, out10_eq, h7, h8]

set_option backward.isDefEq.respectTransparency.types false in
/-- The averaging matrix of the second half after the first launch. -/
theorem arr11 : (dat0 V c).arrAt 11 cfg0.N = k0_pay1 (F := Ideal) := by
  refine (dat0 V c).arrAt_eq_of_after_last 11 t0_0 (by decide +kernel) _ fun j => ?_
  blk_simp
  rw [after0_11, out11_eq]

set_option backward.isDefEq.respectTransparency.types false in
/-- The averaging matrix of the first half after the first launch. -/
theorem arr12 : (dat0 V c).arrAt 12 cfg0.N = k0_pay2 (F := Ideal) := by
  refine (dat0 V c).arrAt_eq_of_after_last 12 t0_0 (by decide +kernel) _ fun j => ?_
  blk_simp
  rw [after0_12, out12_eq]

end Cert.KernelIdeal.Value

namespace Cert.KernelIdeal.Value

open Idealize.ShloMosaic Idealize.ShloMosaic.TcCoe Idealize.ShloMosaic.Tactic
open Cert.Proof Cert.KernelIdeal.Gen Cert.ReferenceIdeal.Value

variable (m : (ℓ : Loc nD τ sig) → Buf (Elt Ideal) ℓ) (ρ : Dev nD → PrngReg) (c : Dev nD)

/-- An argument's contents at the launch. -/
abbrev arg (b : Ref sig .tc) : Buf (Elt Ideal) ((c : Thread nD τ).loc b) := W0 m ρ c (Proc.devRef .tc b)

/-- The table's column of a class: the normalised projected row of its tag and interaction over zeros. -/
theorem ctv_apply (t : Fin 11) (q : Fin 3) (hc : 3 * t.val + q.val < 40) (i : Fin 64) :
    (W2 m ρ c (Proc.devRef .tc main_call0_v14_0) : FVec Ideal S64x40 .bf16) (ix2 i ⟨3 * t.val + q.val, hc⟩)
      = join (fun h => lnKer ((32 : ℝ) : EReal) (eps : EReal)
            (catRow (arg m ρ c main_arg5) (arg m ρ c main_arg6) (arg m ρ c main_arg7) (arg m ρ c main_arg8) t q) h
          * (arg m ρ c main_arg9 : FVec Ideal S32 .f32) (ix1 h) + (arg m ρ c main_arg10 : FVec Ideal S32 .f32) (ix1 h))
        (fun _ => 0) i := by
  have e := congrFun ((W2_arr m ρ c 9).trans (arr9 (V1 m ρ) c)) (ix2 i ⟨3 * t.val + q.val, hc⟩)
  refine e.trans ((table_apply _ _ _ _ _ _ _ t q hc i).trans ?_)
  have hcol : colOf (V1 m ρ c main_call0_v3) (V1 m ρ c main_call0_v4) (V1 m ρ c main_call0_v6) (V1 m ρ c main_call0_v8)
      (V1 m ρ c main_call0_v9) t q = catRow (arg m ρ c main_arg5) (arg m ρ c main_arg6) (arg m ρ c main_arg7)
        (arg m ρ c main_arg8) t q := by
    funext h
    refine congrArg₂ (fun a b : EReal => a + b) (congrArg₂ (fun a b : EReal => a + b) ?_ ?_) (h_v9 (W0 m ρ c) h)
    · refine Finset.sum_congr rfl fun k _ => ?_
      exact (congrArg₂ (fun a b : EReal => a * b) (h_v6 (W0 m ρ c) k h) (h_v3 (W0 m ρ c) k t)).trans (mul_comm _ _)
    · refine Finset.sum_congr rfl fun k _ => ?_
      exact (congrArg₂ (fun a b : EReal => a * b) (h_v8 (W0 m ρ c) k h) (h_v4 (W0 m ρ c) k q)).trans (mul_comm _ _)
  rw [hcol]
  refine congrArg (fun f => join f (fun _ => 0) i) (funext fun h => ?_)
  exact congrArg₂ (fun a b : EReal => _ * a + b) (h_v10 (W0 m ρ c) h) (h_v11 (W0 m ρ c) h)

/-- The centred weights: nothing in the first half; in the second each number's weights, then the bias, less their mean. -/
theorem w4_apply (k : Fin 4) (i : Fin 64) :
    (W2 m ρ c (Proc.devRef .tc main_call0_v14_1) : FVec Ideal S4x64 .f32) (ix2 k i)
      = join (fun _ => 0) (fun h => if hk : k.val < 3
          then dev ((32 : ℝ) : EReal) (fun j => (arg m ρ c main_arg11 : FVec Ideal S3x32 .f32) (ix2 ⟨k.val, hk⟩ j)) h
          else dev ((32 : ℝ) : EReal) (fun j => (arg m ρ c main_arg12 : FVec Ideal S32 .f32) (ix1 j)) h) i := by
  have e := congrFun ((W2_arr m ρ c 10).trans (arr10 (V1 m ρ) c)) (ix2 k i)
  refine e.trans ((pay8_apply _ _ k i).trans ?_)
  refine congrArg (fun f => join (fun _ => 0) f i) (funext fun h => ?_)
  refine dite_congr rfl (fun hk => ?_) fun hk => ?_
  · exact congrArg (fun f => dev _ f h) (funext fun j => h_v12 (W0 m ρ c) ⟨k.val, hk⟩ j)
  · exact congrArg (fun f => dev _ f h) (funext fun j => h_v13 (W0 m ρ c) j)

/-- The averaging matrix of the second half. -/
theorem u64_apply (k i : Fin 64) : (W2 m ρ c (Proc.devRef .tc main_call0_v14_2) : FVec Ideal S64x64 .bf16) (ix2 k i)
    = if 32 ≤ k.val then (((1 / 32 : ℝ)) : EReal) else 0 :=
  (congrFun ((W2_arr m ρ c 11).trans (arr11 (V1 m ρ) c)) (ix2 k i)).trans (pay1_apply k i)

/-- The averaging matrix of the first half. -/
theorem umu_apply (k i : Fin 64) : (W2 m ρ c (Proc.devRef .tc main_call0_v14_3) : FVec Ideal S64x64 .bf16) (ix2 k i)
    = if k.val < 32 then (((1 / 64 : ℝ)) : EReal) else 0 :=
  (congrFun ((W2_arr m ρ c 12).trans (arr12 (V1 m ρ) c)) (ix2 k i)).trans (pay2_apply k i)

end Cert.KernelIdeal.Value

end
-- ==== Proof.KernelRun.lean ====
/- The kernel program run from any memory: its result is the last boundary's contents of the result buffer. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every fair execution of the kernel program ends with its result buffer at the
    contents that follow the last host operation, and with its arguments as they were. -/
theorem value_run : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c)⟩)

end Cert.KernelIdeal.Gen

end
-- ==== Proof.Output.lean ====
/- What the second launch leaves in its result array, and what the kernel program's result holds. -/
module

public import proofs.«01_k».proof.Proof.Block
public import proofs.«01_k».proof.Proof.Arrays
public import proofs.«01_k».proof.Proof.KernelRun

@[expose] public section

set_option maxRecDepth 16384

noncomputable section

namespace Cert.KernelIdeal.Value

open Idealize.ShloMosaic Idealize.ShloMosaic.TcCoe Idealize.ShloMosaic.Tactic
open Cert.Proof Cert.KernelIdeal.Gen Cert.ReferenceIdeal.Value

/-- Where the second launch's windows stand at each of its points. -/
theorem idx1 : ∀ t : Fin cfg1.N, win1_0.index t = ![t.val, 0] ∧ win1_1.index t = ![t.val, 0] ∧ win1_2.index t = ![0, t.val]
    ∧ win1_3.index t = ![0, 0] ∧ win1_4.index t = ![0, 0] ∧ win1_5.index t = ![0, 0] ∧ win1_6.index t = ![0, 0]
    ∧ win1_7.index t = ![t.val, 0] :=
  (by decide +kernel : ∀ t : Fin grid1.N, _)

section
variable (V : (c : Dev nD) → (b : Ref sig .tc) → Buf (Elt Ideal) ((c : Thread nD τ).loc b)) (c : Dev nD)

/-- The second launch's points are the 64 groups of 64 batch elements. -/
theorem point_lt (t : Fin cfg1.N) : t.val < 64 := by
  have := t.isLt; have h := N_1; exact h ▸ this

/-- The batch element of a point and its place in the block. -/
def batch (t : Fin cfg1.N) (b : Fin 64) : Fin 4096 := ⟨64 * t.val + b.val, by have := point_lt t; omega⟩

/-- The tables' blocks are the whole tables at every point. -/
theorem blk1_tables (t : Fin cfg1.N) : iblk1 V c 3 t = V c main_call0_v14_0 ∧ iblk1 V c 4 t = V c main_call0_v14_1
    ∧ iblk1 V c 5 t = V c main_call0_v14_2 ∧ iblk1 V c 6 t = V c main_call0_v14_3 := by
  refine ⟨?_, ?_, ?_, ?_⟩ <;>
  · funext j
    blk_ext [iblk1, idx1 t]

/-- The tags' block of a point holds the tags of the point's batch elements. -/
theorem blk1_tag (t : Fin cfg1.N) (b : Fin 64) (l : Fin 200) :
    (iblk1 V c 0 t : IVec S64x200 32) (ix2 b l) = (V c main_arg0 : IVec S4096x200 32) (ix2 (batch t b) l) := by
  blk_ext [iblk1, idx1 t, batch]

/-- The interactions' block of a point holds the interactions of the point's batch elements. -/
theorem blk1_int (t : Fin cfg1.N) (b : Fin 64) (l : Fin 200) :
    (iblk1 V c 1 t : IVec S64x200 32) (ix2 b l) = (V c main_arg1 : IVec S4096x200 32) (ix2 (batch t b) l) := by
  blk_ext [iblk1, idx1 t, batch]

/-- The numbers' block of a point holds the numbers of the point's positions. -/
theorem blk1_num (t : Fin cfg1.N) (b : Fin 64) (l : Fin 200) (k : Fin 3) :
    (iblk1 V c 2 t : FVec Ideal S3x12800 .f32) (ix2 k (rowOf b l))
      = (V c main_call0_v2 : FVec Ideal S3x819200 .f32) (ix2 k (flat (batch t b) l)) := by
  blk_ext [iblk1, idx1 t, batch, rowOf]

end

variable (m : (ℓ : Loc nD τ sig) → Buf (Elt Ideal) ℓ) (ρ : Dev nD → PrngReg) (c : Dev nD)
variable (tag : Fin 4096 → Fin 200 → Fin 11) (int : Fin 4096 → Fin 200 → Fin 3)

/-- The kernel's row at a position before its last steps: the class's column of the table plus the projected numbers. -/
def preRow (b : Fin 4096) (l : Fin 200) (i : Fin 64) : EReal :=
  join (fun h => lnKer ((32 : ℝ) : EReal) (eps : EReal)
        (catRow (arg m ρ c main_arg5) (arg m ρ c main_arg6) (arg m ρ c main_arg7) (arg m ρ c main_arg8) (tag b l) (int b l)) h
      * (arg m ρ c main_arg9 : FVec Ideal S32 .f32) (ix1 h) + (arg m ρ c main_arg10 : FVec Ideal S32 .f32) (ix1 h))
    (fun _ => 0) i
  + ∑ k : Fin 4, (if h : k.val < 3 then
        numAt (arg m ρ c main_arg2) (arg m ρ c main_arg3) (arg m ρ c main_arg4) b l ⟨k.val, h⟩ else 1)
      * join (fun _ => 0) (fun h => if hk : k.val < 3
          then dev ((32 : ℝ) : EReal) (fun j => (arg m ρ c main_arg11 : FVec Ideal S3x32 .f32) (ix2 ⟨k.val, hk⟩ j)) h
          else dev ((32 : ℝ) : EReal) (fun j => (arg m ρ c main_arg12 : FVec Ideal S32 .f32) (ix1 j)) h) i

/-- The tags and interactions of the launch are the given ones. -/
def Classes : Prop := (∀ b l, (arg m ρ c main_arg0 : IVec S4096x200 32) (ix2 b l) = BitVec.ofNat 32 (tag b l).val)
  ∧ ∀ b l, (arg m ρ c main_arg1 : IVec S4096x200 32) (ix2 b l) = BitVec.ofNat 32 (int b l).val

set_option backward.isDefEq.respectTransparency.types false in
/-- One block of the second launch at one of its rows. -/
theorem block_row (H : Classes m ρ c tag int) (t : Fin cfg1.N) (b : Fin 64) (l : Fin 200) (i : Fin 64) :
    blockOut (iblk1 (V2 m ρ) c 0 t) (iblk1 (V2 m ρ) c 1 t) (iblk1 (V2 m ρ) c 2 t) (iblk1 (V2 m ρ) c 3 t)
      (iblk1 (V2 m ρ) c 4 t) (iblk1 (V2 m ρ) c 5 t) (iblk1 (V2 m ρ) c 6 t) (ix2 (rowOf b l) i)
      = kerRow (fun n => preRow m ρ c tag int (batch t b) l n) i := by
  obtain ⟨h3, h4, h5, h6⟩ := blk1_tables (V2 m ρ) c t
  rw [h3, h4, h5, h6]
  refine (pay1_row _ _ _ (u64_apply m ρ c) (umu_apply m ρ c) (rowOf b l) i).trans ?_
  refine congrArg (fun f => kerRow f i) (funext fun n => ?_)
  have hc : 3 * (tag (batch t b) l).val + (int (batch t b) l).val < 40 := by omega
  refine (val_apply _ _ _ _ _ b l (tag (batch t b) l) (int (batch t b) l) hc ?_ ?_ n).trans ?_
  · refine (blk1_tag (V2 m ρ) c t b l).trans ((congrFun ?_ _).trans (H.1 _ _))
    exact W2_args m ρ c main_arg0 (by decide)
  · refine (blk1_int (V2 m ρ) c t b l).trans ((congrFun ?_ _).trans (H.2 _ _))
    exact W2_args m ρ c main_arg1 (by decide)
  refine congrArg₂ (fun a b : EReal => a + b) (ctv_apply m ρ c _ _ hc n) (Finset.sum_congr rfl fun k _ => ?_)
  refine congrArg₂ (fun a b : EReal => a * b) (dite_congr rfl (fun hk => ?_) fun _ => rfl) (w4_apply m ρ c k n)
  refine (blk1_num (V2 m ρ) c t b l _).trans ((congrFun ?_ _).trans (h_v2 (W0 m ρ c) (batch t b) l ⟨k.val, hk⟩))
  exact W2_of m ρ c main_call0_v2 (by decide +kernel)

/-- The kernel's row at a place among all the positions. -/
def outAt (p : Fin 819200) (i : Fin 64) : EReal :=
  kerRow (fun n => preRow m ρ c tag int ⟨p.val / 200, by omega⟩ ⟨p.val % 200, by omega⟩ n) i

/-- The kernel's row at a position is its row at the position's place. -/
theorem outAt_flat (b : Fin 4096) (l : Fin 200) (i : Fin 64) :
    outAt m ρ c tag int (flat b l) i = kerRow (fun n => preRow m ρ c tag int b l n) i := by
  have hb : (⟨(flat b l).val / 200, by omega⟩ : Fin 4096) = b := Fin.ext (by show (200 * b.val + l.val) / 200 = _; omega)
  have hl : (⟨(flat b l).val % 200, by omega⟩ : Fin 200) = l := Fin.ext (by show (200 * b.val + l.val) % 200 = _; omega)
  unfold outAt
  rw [hb, hl]

/-- One block of the second launch at any of its rows. -/
theorem block_apply (H : Classes m ρ c tag int) (t : Fin cfg1.N) (r : Fin 12800) (i : Fin 64) :
    blockOut (iblk1 (V2 m ρ) c 0 t) (iblk1 (V2 m ρ) c 1 t) (iblk1 (V2 m ρ) c 2 t) (iblk1 (V2 m ρ) c 3 t)
      (iblk1 (V2 m ρ) c 4 t) (iblk1 (V2 m ρ) c 5 t) (iblk1 (V2 m ρ) c 6 t) (ix2 r i)
      = outAt m ρ c tag int ⟨t.val * 12800 + r.val, by have := point_lt t; omega⟩ i := by
  have hr : r = rowOf ⟨r.val / 200, by omega⟩ ⟨r.val % 200, by omega⟩ :=
    Fin.ext (by show r.val = 200 * (r.val / 200) + r.val % 200; omega)
  have hp : (⟨t.val * 12800 + r.val, by have := point_lt t; omega⟩ : Fin 819200)
      = flat (batch t ⟨r.val / 200, by omega⟩) ⟨r.val % 200, by omega⟩ :=
    Fin.ext (by show t.val * 12800 + r.val = 200 * (64 * t.val + r.val / 200) + r.val % 200; omega)
  rw [hp, outAt_flat]
  refine Eq.trans ?_ (block_row m ρ c tag int H t ⟨r.val / 200, by omega⟩ ⟨r.val % 200, by omega⟩ i)
  rw [← hr]

set_option backward.isDefEq.respectTransparency.types false in
/-- The second launch's result array, row by row. -/
theorem arr15 (H : Classes m ρ c tag int) :
    (dat1 (V2 m ρ) c).arrAt 7 cfg1.N = (fun j : S819200x64.Idx => outAt m ρ c tag int (j 0) (j 1)) := by
  refine (dat1 (V2 m ρ) c).arrAt_eq_of_covers 7 _ (by decide +kernel) fun t hf y => ?_
  blk_simp
  rw [after1_7, out_eq]
  have hy : (y : S12800x64.Idx) = ix2 (y 0) (y 1) := by funext a; fin_cases a <;> rfl
  refine (congrArg _ hy).trans ((block_apply m ρ c tag int H t (y 0) (y 1)).trans ?_)
  refine congrArg₂ (outAt m ρ c tag int) (Fin.ext ?_) (Fin.ext ?_)
  · blk_simp [idx1 t]
  · blk_simp [idx1 t]

/-- The kernel program's result at an index. -/
theorem out_apply (H : Classes m ρ c tag int) (b : Fin 4096) (l : Fin 200) (i : Fin 64) :
    (W4 m ρ c (Proc.devRef .tc main_v0) : FVec Ideal S4096x200x64 .f32) (ix3 b l i)
      = kerRow (fun n => preRow m ρ c tag int b l n) i := by
  refine (h_out (W3 m ρ c) b l i).trans ?_
  refine (congrFun ((W3_arr m ρ c 7).trans (arr15 m ρ c tag int H)) (ix2 (flat b l) i)).trans ?_
  exact outAt_flat m ρ c tag int b l i

end Cert.KernelIdeal.Value

end
-- ==== Proof.RefValue.lean ====
/- What the reference computes, read at one element. -/
module

public import proofs.«01_k».proof.Proof.Gen.ReferenceIdeal.Run
public import proofs.«01_k».proof.Proof.RefRows

@[expose] public section

set_option maxRecDepth 16384

noncomputable section

namespace Cert.ReferenceIdeal.Value

open Idealize.ShloMosaic Idealize.ShloMosaic.TcCoe Idealize.SL.Sem Idealize.ShloMosaic.StableHlo
open Cert.Proof Cert.ReferenceIdeal.Gen

variable (V : Valuation τ sig (Elt Ideal))

/-- The integer zero as a float is zero. -/
theorem sitofp_zero : (FloatOps.sitofp (F := Ideal) FTy.f32 0#32 : EReal) = 0 := by
  simp [FloatOps.sitofp]

/-- A normalised row of thirty-two entries the way the reference writes it: with the count of degrees of
freedom guarded against zero. -/
theorem ref_ln32 (p : Fin 32 → EReal) (h : Fin 32) (X : EReal)
    [Decidable (0 < Ideal.ofBits FTy.f32 1107296256#32 - (FloatOps.sitofp (F := Ideal) FTy.f32 0#32 : EReal))] :
    Ideal.div (p h - Ideal.div (∑ x, p x) (Ideal.ofBits FTy.f32 1107296256#32))
      (Ideal.sqrt ((if 0 < Ideal.ofBits FTy.f32 1107296256#32 - (FloatOps.sitofp (F := Ideal) FTy.f32 0#32 : EReal) then
        Ideal.div (∑ x, (p x - Ideal.div (∑ x, p x) (Ideal.ofBits FTy.f32 1107296256#32))
            * (p x - Ideal.div (∑ x, p x) (Ideal.ofBits FTy.f32 1107296256#32)))
          (Ideal.ofBits FTy.f32 1107296256#32 - (FloatOps.sitofp (F := Ideal) FTy.f32 0#32 : EReal))
        else X) + Ideal.ofBits FTy.f32 897988541#32))
      = lnRef ((32 : ℝ) : EReal) (eps : EReal) p h := by
  have h0 : Ideal.ofBits FTy.f32 1107296256#32 - (FloatOps.sitofp (F := Ideal) FTy.f32 0#32 : EReal) = ((32 : ℝ) : EReal) := by
    rw [sitofp_zero, sub_zero]; exact lit_32
  have hc : 0 < Ideal.ofBits FTy.f32 1107296256#32 - (FloatOps.sitofp (F := Ideal) FTy.f32 0#32 : EReal) := by
    rw [h0]; exact EReal.coe_pos.mpr (by norm_num)
  rw [if_pos hc, h0, lit_eps, show Ideal.ofBits FTy.f32 1107296256#32 = ((32 : ℝ) : EReal) from lit_32]
  rfl

/-- A normalised row of sixty-four entries the way the reference writes it. -/
theorem ref_ln64 (p : Fin 64 → EReal) (h : Fin 64) (X : EReal)
    [Decidable (0 < Ideal.ofBits FTy.f32 1115684864#32 - (FloatOps.sitofp (F := Ideal) FTy.f32 0#32 : EReal))] :
    Ideal.div (p h - Ideal.div (∑ x, p x) (Ideal.ofBits FTy.f32 1115684864#32))
      (Ideal.sqrt ((if 0 < Ideal.ofBits FTy.f32 1115684864#32 - (FloatOps.sitofp (F := Ideal) FTy.f32 0#32 : EReal) then
        Ideal.div (∑ x, (p x - Ideal.div (∑ x, p x) (Ideal.ofBits FTy.f32 1115684864#32))
            * (p x - Ideal.div (∑ x, p x) (Ideal.ofBits FTy.f32 1115684864#32)))
          (Ideal.ofBits FTy.f32 1115684864#32 - (FloatOps.sitofp (F := Ideal) FTy.f32 0#32 : EReal))
        else X) + Ideal.ofBits FTy.f32 897988541#32))
      = lnRef ((64 : ℝ) : EReal) (eps : EReal) p h := by
  have h0 : Ideal.ofBits FTy.f32 1115684864#32 - (FloatOps.sitofp (F := Ideal) FTy.f32 0#32 : EReal) = ((64 : ℝ) : EReal) := by
    rw [sitofp_zero, sub_zero]; exact lit_64
  have hc : 0 < Ideal.ofBits FTy.f32 1115684864#32 - (FloatOps.sitofp (F := Ideal) FTy.f32 0#32 : EReal) := by
    rw [h0]; exact EReal.coe_pos.mpr (by norm_num)
  rw [if_pos hc, h0, lit_eps, show Ideal.ofBits FTy.f32 1115684864#32 = ((64 : ℝ) : EReal) from lit_64]
  rfl

/-- The reference's joined row at a position: the normalised categorical row beside the normalised numeric
row, each scaled and shifted. -/
theorem v49_apply (b : Fin 4096) (l : Fin 200) (i : Fin 64) :
    (res_main_v49 V : FVec Ideal S4096x200x64 .f32) (ix3 b l i)
      = join
        (fun h => lnRef ((32 : ℝ) : EReal) (eps : EReal) (fun j => (res_main_v6 V : FVec Ideal S4096x200x32 .f32) (ix3 b l j)) h
          * (V (Proc.devRef .tc main_arg9) : FVec Ideal S32 .f32) (ix1 h) + (V (Proc.devRef .tc main_arg10) : FVec Ideal S32 .f32) (ix1 h))
        (fun h => lnRef ((32 : ℝ) : EReal) (eps : EReal) (fun j => (res_main_v30 V : FVec Ideal S4096x200x32 .f32) (ix3 b l j)) h
          * (V (Proc.devRef .tc main_arg13) : FVec Ideal S32 .f32) (ix1 h) + (V (Proc.devRef .tc main_arg14) : FVec Ideal S32 .f32) (ix1 h)) i := by
  pointwise [res_main_v49, res_main_call2_v5, res_main_call3_v5, res_main_call2_v8, res_main_call3_v8]
  refine dite_congr rfl (fun hi => ?_) fun hi => ?_
  · exact congrArg (· + _) (congrArg (· * _) (ref_ln32 (fun j => (res_main_v6 V : FVec Ideal S4096x200x32 .f32) (ix3 b l j)) _ _))
  · exact congrArg (· + _) (congrArg (· * _) (ref_ln32 (fun j => (res_main_v30 V : FVec Ideal S4096x200x32 .f32) (ix3 b l j)) _ _))

/-- The reference's result as one term of the arguments. -/
def result (V : Valuation τ sig (Elt Ideal)) : FVec Ideal S4096x200x64 .f32 :=
  addf (mulf (Host.divf (subf (res_main_v49 V) (broadcastInDim S4096x200x64 ![0, 1, 2] bcast_S4096x200x1_S4096x200x64_0_1_2 (Host.divf (broadcastInDim S4096x200x1 ![0, 1] bcast_S4096x200_S4096x200x1_0_1 (Host.reduceAdd (res_main_v49 V) (constant S_ .f32 0x00000000#32) reducesTo_S4096x200x64_S4096x200_d2 h_S_)) (broadcastInDim S4096x200x1 ![] bcast_S_S4096x200x1 (constant S_ .f32 0x42800000#32))))) (broadcastInDim S4096x200x64 ![0, 1, 2] bcast_S4096x200x1_S4096x200x64_0_1_2 (Host.sqrt (addf (select (broadcastInDim S4096x200x1 ![] bcast_S_S4096x200x1 (cmpf .ogt (res_main_call4_v8 V) (constant S_ .f32 0x00000000#32))) (Host.divf (broadcastInDim S4096x200x1 ![0, 1] bcast_S4096x200_S4096x200x1_0_1 (Host.reduceAdd (mulf (res_main_call4_v5 V) (res_main_call4_v5 V)) (constant S_ .f32 0x00000000#32) reducesTo_S4096x200x64_S4096x200_d2 h_S_)) (broadcastInDim S4096x200x1 ![] bcast_S_S4096x200x1 (res_main_call4_v8 V))) (broadcastInDim S4096x200x1 ![] bcast_S_S4096x200x1 (id (constant S_ .f32 0x7FC00000#32)))) (broadcastInDim S4096x200x1 ![] bcast_S_S4096x200x1 (constant S_ .f32 0x358637BD#32)))))) (broadcastInDim S4096x200x64 ![0, 1, 2] bcast_S1x1x64_S4096x200x64_0_1_2 (broadcastInDim S1x1x64 ![2] bcast_S64_S1x1x64_2 (V (Proc.devRef .tc main_arg15))))) (broadcastInDim S4096x200x64 ![0, 1, 2] bcast_S1x1x64_S4096x200x64_0_1_2 (broadcastInDim S1x1x64 ![2] bcast_S64_S1x1x64_2 (V (Proc.devRef .tc main_arg16))))

/-- The reference's result at a position: the joined row normalised over its sixty-four entries, scaled and
shifted. -/
theorem result_apply (b : Fin 4096) (l : Fin 200) (i : Fin 64) :
    result V (ix3 b l i)
      = lnRef ((64 : ℝ) : EReal) (eps : EReal) (fun j => (res_main_v49 V : FVec Ideal S4096x200x64 .f32) (ix3 b l j)) i
        * (V (Proc.devRef .tc main_arg15) : FVec Ideal S64 .f32) (ix1 i) + (V (Proc.devRef .tc main_arg16) : FVec Ideal S64 .f32) (ix1 i) := by
  pointwise [result, res_main_call4_v5, res_main_call4_v8]
  exact congrArg (· + _) (congrArg (· * _) (ref_ln64 (fun j => (res_main_v49 V : FVec Ideal S4096x200x64 .f32) (ix3 b l j)) _ _))

end Cert.ReferenceIdeal.Value

end
-- ==== Proof.Equation.lean ====
/- The kernel's row and the reference's row are equal on real inputs. -/
module

public import proofs.«01_k».proof.Proof.Mix

@[expose] public section

noncomputable section

namespace Cert.Proof

open Idealize.ShloMosaic

/-- The kernel's row before its last steps: the normalised first half, and in the second half the numbers against the
    centred weights, the bias's row taken once. -/
def mixRow (crow g b : Fin 32 → EReal) (x : Fin 3 → EReal) (w : Fin 3 → Fin 32 → EReal) (bn : Fin 32 → EReal)
    (i : Fin 64) : EReal :=
  join (fun h => lnKer ((32 : ℝ) : EReal) (eps : EReal) crow h * g h + b h) (fun _ => 0) i
  + ∑ k : Fin 4, (if h : k.val < 3 then x ⟨k.val, h⟩ else 1)
      * join (fun _ => 0) (fun h => if hk : k.val < 3 then dev ((32 : ℝ) : EReal) (w ⟨k.val, hk⟩) h
          else dev ((32 : ℝ) : EReal) bn h) i

/-- The deviations of a combination of rows are the combination of their deviations. -/
theorem dev_comb (x : Fin 3 → ℝ) (w : Fin 3 → Fin 32 → ℝ) (bn : Fin 32 → ℝ) (h : Fin 32) :
    (∑ k : Fin 4, (if h : k.val < 3 then (x ⟨k.val, h⟩ : EReal) else 1)
      * (if hk : k.val < 3 then dev ((32 : ℝ) : EReal) (fun j => (w ⟨k.val, hk⟩ j : EReal)) h
          else dev ((32 : ℝ) : EReal) (fun j => (bn j : EReal)) h))
      = dev ((32 : ℝ) : EReal) (fun j => (((∑ k, x k * w k j) + bn j : ℝ) : EReal)) h := by
  rw [Fin.sum_univ_castSucc]
  have hlast : ¬ (Fin.last 3).val < 3 := by decide
  rw [dif_neg hlast, dif_neg hlast, one_mul]
  have e : ∀ k : Fin 3, (if h : (k.castSucc : Fin 4).val < 3 then (x ⟨(k.castSucc : Fin 4).val, h⟩ : EReal) else 1)
      * (if hk : (k.castSucc : Fin 4).val < 3 then
          dev ((32 : ℝ) : EReal) (fun j => (w ⟨(k.castSucc : Fin 4).val, hk⟩ j : EReal)) h
          else dev ((32 : ℝ) : EReal) (fun j => (bn j : EReal)) h)
      = ((x k * (w k h - (∑ j, w k j) * (1 / 32)) : ℝ) : EReal) := by
    intro k
    have hk : (k.castSucc : Fin 4).val < 3 := k.isLt
    rw [dif_pos hk, dif_pos hk, dev_coe 32 (by norm_num), ← EReal.coe_mul]
    rfl
  rw [Finset.sum_congr rfl fun k _ => e k, dev_coe 32 (by norm_num), dev_coe 32 (by norm_num), ← coe_sum', ← EReal.coe_add]
  congr 1
  have hs : ∑ j : Fin 32, ((∑ k, x k * w k j) + bn j) = (∑ k, x k * ∑ j, w k j) + ∑ j, bn j := by
    rw [Finset.sum_add_distrib, Finset.sum_comm]
    simp only [Finset.mul_sum]
  rw [hs]
  simp only [Fin.sum_univ_three]
  ring

/-- The kernel's row before its last steps, in halves. -/
theorem mixRow_eq (crow : Fin 32 → EReal) (g b : Fin 32 → EReal) (x : Fin 3 → ℝ) (w : Fin 3 → Fin 32 → ℝ) (bn : Fin 32 → ℝ) :
    mixRow crow g b (fun k => (x k : EReal)) (fun k j => (w k j : EReal)) (fun j => (bn j : EReal))
      = join (fun h => lnKer ((32 : ℝ) : EReal) (eps : EReal) crow h * g h + b h)
        (fun h => dev ((32 : ℝ) : EReal) (fun j => (((∑ k, x k * w k j) + bn j : ℝ) : EReal)) h) := by
  funext i
  unfold mixRow join
  by_cases hi : i.val < 32
  · simp only [dif_pos hi, mul_zero, Finset.sum_const_zero, add_zero]
  · simp only [dif_neg hi, zero_add]
    exact dev_comb x w bn _

/-- The kernel's row is the reference's: both halves normalised, joined, and normalised again. -/
theorem row_eq (crow : Fin 32 → EReal) (g b : Fin 32 → ℝ) (x : Fin 3 → ℝ) (w : Fin 3 → Fin 32 → ℝ) (bn : Fin 32 → ℝ)
    (i : Fin 64) :
    kerRow (mixRow crow (fun h => (g h : EReal)) (fun h => (b h : EReal)) (fun k => (x k : EReal))
        (fun k j => (w k j : EReal)) (fun j => (bn j : EReal))) i
      = lnRef ((64 : ℝ) : EReal) (eps : EReal)
          (join (fun h => lnRef ((32 : ℝ) : EReal) (eps : EReal) crow h * (g h : EReal) + (b h : EReal))
            (lnRef ((32 : ℝ) : EReal) (eps : EReal) fun j => (∑ k, (x k : EReal) * (w k j : EReal)) + (bn j : EReal))) i := by
  choose r hr hk using ln_real (n := 32) 32 eps (by norm_num) eps_pos crow
  rw [mixRow_eq]
  simp only [hr, hk, ← EReal.coe_mul, ← EReal.coe_add, ← coe_sum']
  exact kerRow_eq (fun h => r h * g h + b h) (fun j => (∑ k, x k * w k j) + bn j) i

end Cert.Proof

end
-- ==== Proof.Given.lean ====
/- What the precondition says of the arguments, element by element. -/
module

public import proofs.«01_k».proof.Pre_inputs_as_drawn
public import proofs.«01_k».proof.Proof.Literals
public import Idealize.ShloMosaic.Lib.Pointwise

@[expose] public section

noncomputable section

namespace Cert.Pre_inputs_as_drawn

open Idealize.ShloMosaic
open Cert.Proof

instance facts : Facts := by
  constructor <;> decide

/-- A bit of a truth value is one only if the value is true. -/
theorem of_bit {b : Bool} (h : BitVec.ofBool b = 1#1) : b = true := by
  cases b
  · exact absurd h (by decide)
  · rfl

/-- A word that is at least zero and at most `n`, both signed, is one of the first `n + 1` numbers. -/
theorem word_range (w : BitVec 32) (n : ℕ) (hn : n < 2 ^ 31)
    (h : IntOp.andi (IntOp.cmpi CmpIPredicate.sge w 0#32) (IntOp.cmpi CmpIPredicate.sle w (BitVec.ofNat 32 n)) = 1#1) :
    ∃ t : Fin (n + 1), w = BitVec.ofNat 32 t.val := by
  have hs : (0#32).sle w = true ∧ w.sle (BitVec.ofNat 32 n) = true := by
    change BitVec.ofBool ((0#32).sle w) &&& BitVec.ofBool (w.sle (BitVec.ofNat 32 n)) = 1#1 at h
    revert h
    cases (0#32).sle w <;> cases w.sle (BitVec.ofNat 32 n) <;> decide
  have h0 := BitVec.sle_iff_toInt_le.mp hs.1
  have h1 := BitVec.sle_iff_toInt_le.mp hs.2
  have hN : (BitVec.ofNat 32 n).toInt = n := by
    rw [BitVec.toInt_eq_toNat_cond, BitVec.toNat_ofNat, Nat.mod_eq_of_lt (by omega), if_pos (by omega)]
  have hw := BitVec.toInt_eq_toNat_cond w
  rw [hN] at h1
  rw [BitVec.toInt_zero] at h0
  have hlt := w.isLt
  have hle : w.toNat < n + 1 := by
    split at hw <;> omega
  exact ⟨⟨w.toNat, hle⟩, BitVec.eq_of_toNat_eq (by rw [BitVec.toNat_ofNat, Nat.mod_eq_of_lt hlt])⟩

/-- An extended real whose absolute value is below infinity is a real. -/
theorem real_of_finite (x : EReal)
    (h : BitVec.ofBool (decide (FloatOps.absf (F := Ideal) (φ := .f32) x < Ideal.ofBits FTy.f32 0x7F800000#32)) = 1#1) :
    ∃ r : ℝ, x = (r : EReal) := by
  have h' := of_decide_eq_true (of_bit h)
  rw [lit_inf] at h'
  induction x with
  | bot => exact absurd h' (by simp [FloatOps.absf])
  | top => exact absurd h' (by simp [FloatOps.absf])
  | coe r => exact ⟨r, rfl⟩

variable (a0 a1 : IVec S4096x200 32) (a2 a3 a4 : FVec Ideal S4096x200 .f32) (a5 : FVec Ideal S11x21 .f32)
  (a6 : FVec Ideal S3x21 .f32) (a7 : FVec Ideal S42x32 .f32) (a8 a9 a10 : FVec Ideal S32 .f32)
  (a11 : FVec Ideal S3x32 .f32) (a12 a13 a14 : FVec Ideal S32 .f32) (a15 a16 : FVec Ideal S64 .f32)

/-- What the precondition says of the arguments: the tags and interactions are in range, the numbers, the first
    normalisation's scale and shift and the numbers' weights and bias are real, the other two normalisations' scales are
    one and their shifts zero. -/
structure Given : Prop where
  tag : ∀ b l, ∃ t : Fin 11, a0 (ix2 b l) = BitVec.ofNat 32 t.val
  int : ∀ b l, ∃ q : Fin 3, a1 (ix2 b l) = BitVec.ofNat 32 q.val
  e : ∀ b l, ∃ r : ℝ, a2 (ix2 b l) = (r : EReal)
  d : ∀ b l, ∃ r : ℝ, a3 (ix2 b l) = (r : EReal)
  a : ∀ b l, ∃ r : ℝ, a4 (ix2 b l) = (r : EReal)
  gc : ∀ h, ∃ r : ℝ, a9 (ix1 h) = (r : EReal)
  bc : ∀ h, ∃ r : ℝ, a10 (ix1 h) = (r : EReal)
  w : ∀ k h, ∃ r : ℝ, a11 (ix2 k h) = (r : EReal)
  bn : ∀ h, ∃ r : ℝ, a12 (ix1 h) = (r : EReal)
  gn : ∀ h, a13 (ix1 h) = 1
  sn : ∀ h, a14 (ix1 h) = 0
  go : ∀ i, a15 (ix1 i) = 1
  so : ∀ i, a16 (ix1 i) = 0

/-- The precondition's thirteen results, all ones, say `Given`. -/
theorem given
    (h : (fn (F := Ideal) a0 a1 a2 a3 a4 a5 a6 a7 a8 a9 a10 a11 a12 a13 a14 a15 a16)
      = (fun _ => 1#1, fun _ => 1#1, fun _ => 1#1, fun _ => 1#1, fun _ => 1#1, fun _ => 1#1, fun _ => 1#1, fun _ => 1#1,
        fun _ => 1#1, fun _ => 1#1, fun _ => 1#1, fun _ => 1#1, fun _ => 1#1)) :
    Given a0 a1 a2 a3 a4 a9 a10 a11 a12 a13 a14 a15 a16 := by
  simp only [fn, fn_part1, fn_part2, Prod.mk.injEq] at h
  obtain ⟨h0, h1, h2, h3, h4, h9, h10, h11, h12, h13, h14, h15, h16⟩ := h
  refine ⟨fun b l => ?_, fun b l => ?_, fun b l => ?_, fun b l => ?_, fun b l => ?_, fun h => ?_, fun h => ?_,
    fun k h => ?_, fun h => ?_, fun h => ?_, fun h => ?_, fun i => ?_, fun i => ?_⟩
  · have e := congrFun h0 (ix2 b l); pointwise at e; exact word_range _ 10 (by decide) e
  · have e := congrFun h1 (ix2 b l); pointwise at e; exact word_range _ 2 (by decide) e
  · have e := congrFun h2 (ix2 b l); pointwise at e; exact real_of_finite _ e
  · have e := congrFun h3 (ix2 b l); pointwise at e; exact real_of_finite _ e
  · have e := congrFun h4 (ix2 b l); pointwise at e; exact real_of_finite _ e
  · have e := congrFun h9 (ix1 h); pointwise at e; exact real_of_finite _ e
  · have e := congrFun h10 (ix1 h); pointwise at e; exact real_of_finite _ e
  · have e := congrFun h11 (ix2 k h); pointwise at e; exact real_of_finite _ e
  · have e := congrFun h12 (ix1 h); pointwise at e; exact real_of_finite _ e
  · have e := congrFun h13 (ix1 h); pointwise at e; exact of_decide_eq_true (of_bit e)
  · have e := congrFun h14 (ix1 h); pointwise at e; exact of_decide_eq_true (of_bit e)
  · have e := congrFun h15 (ix1 i); pointwise at e; exact of_decide_eq_true (of_bit e)
  · have e := congrFun h16 (ix1 i); pointwise at e; exact of_decide_eq_true (of_bit e)

end Cert.Pre_inputs_as_drawn

end
-- ==== Proof.Agree.lean ====
/- The kernel program's result is the reference's, from equal arguments that the precondition allows. -/
module

public import proofs.«01_k».proof.Proof.Output
public import proofs.«01_k».proof.Proof.RefValue
public import proofs.«01_k».proof.Proof.Equation
public import proofs.«01_k».proof.Proof.Given

@[expose] public section

set_option maxRecDepth 16384

noncomputable section

namespace Cert.Proof

open Idealize.ShloMosaic Idealize.ShloMosaic.TcCoe Idealize.ShloMosaic.Tactic
open Cert.KernelIdeal Cert.KernelIdeal.Gen Cert.KernelIdeal.Value Cert.ReferenceIdeal.Value

variable (m : (ℓ : Loc nD τ sig) → Buf (Elt Ideal) ℓ) (ρ : Dev nD → PrngReg) (c : Dev nD)
variable (V : Valuation Cert.ReferenceIdeal.τ Cert.ReferenceIdeal.sig (Elt Ideal))

/-- The reference's arguments hold what the kernel's hold. -/
structure Same : Prop where
  a0 : V (Proc.devRef .tc Cert.ReferenceIdeal.main_arg0) = arg m ρ c main_arg0
  a1 : V (Proc.devRef .tc Cert.ReferenceIdeal.main_arg1) = arg m ρ c main_arg1
  a2 : V (Proc.devRef .tc Cert.ReferenceIdeal.main_arg2) = arg m ρ c main_arg2
  a3 : V (Proc.devRef .tc Cert.ReferenceIdeal.main_arg3) = arg m ρ c main_arg3
  a4 : V (Proc.devRef .tc Cert.ReferenceIdeal.main_arg4) = arg m ρ c main_arg4
  a5 : V (Proc.devRef .tc Cert.ReferenceIdeal.main_arg5) = arg m ρ c main_arg5
  a6 : V (Proc.devRef .tc Cert.ReferenceIdeal.main_arg6) = arg m ρ c main_arg6
  a7 : V (Proc.devRef .tc Cert.ReferenceIdeal.main_arg7) = arg m ρ c main_arg7
  a8 : V (Proc.devRef .tc Cert.ReferenceIdeal.main_arg8) = arg m ρ c main_arg8
  a9 : V (Proc.devRef .tc Cert.ReferenceIdeal.main_arg9) = arg m ρ c main_arg9
  a10 : V (Proc.devRef .tc Cert.ReferenceIdeal.main_arg10) = arg m ρ c main_arg10
  a11 : V (Proc.devRef .tc Cert.ReferenceIdeal.main_arg11) = arg m ρ c main_arg11
  a12 : V (Proc.devRef .tc Cert.ReferenceIdeal.main_arg12) = arg m ρ c main_arg12
  a13 : V (Proc.devRef .tc Cert.ReferenceIdeal.main_arg13) = arg m ρ c main_arg13
  a14 : V (Proc.devRef .tc Cert.ReferenceIdeal.main_arg14) = arg m ρ c main_arg14
  a15 : V (Proc.devRef .tc Cert.ReferenceIdeal.main_arg15) = arg m ρ c main_arg15
  a16 : V (Proc.devRef .tc Cert.ReferenceIdeal.main_arg16) = arg m ρ c main_arg16

/-- Each of the three numbers of a position is real where the three arrays are. -/
theorem num_real (e d a : FVec Ideal S4096x200 .f32) (he : ∀ b l, ∃ r : ℝ, e (ix2 b l) = (r : EReal))
    (hd : ∀ b l, ∃ r : ℝ, d (ix2 b l) = (r : EReal)) (ha : ∀ b l, ∃ r : ℝ, a (ix2 b l) = (r : EReal))
    (b : Fin 4096) (l : Fin 200) (k : Fin 3) : ∃ r : ℝ, numAt e d a b l k = (r : EReal) := by
  unfold numAt
  split
  · exact he _ _
  split
  · exact hd _ _
  · exact ha _ _

/-- The two programs' results are equal at every index. -/
theorem result_eq_at (hs : Same m ρ c V)
    (hg : Cert.Pre_inputs_as_drawn.Given (arg m ρ c main_arg0) (arg m ρ c main_arg1) (arg m ρ c main_arg2)
      (arg m ρ c main_arg3) (arg m ρ c main_arg4) (arg m ρ c main_arg9) (arg m ρ c main_arg10) (arg m ρ c main_arg11)
      (arg m ρ c main_arg12) (arg m ρ c main_arg13) (arg m ρ c main_arg14) (arg m ρ c main_arg15) (arg m ρ c main_arg16))
    (b : Fin 4096) (l : Fin 200) (i : Fin 64) :
    result V (ix3 b l i) = (W4 m ρ c (Proc.devRef .tc main_v0) : FVec Ideal S4096x200x64 .f32) (ix3 b l i) := by
  choose tag htag using hg.tag
  choose int hint using hg.int
  choose x hx using num_real _ _ _ hg.e hg.d hg.a
  choose g hgc using hg.gc
  choose s hbc using hg.bc
  choose w hw using hg.w
  choose bn hbn using hg.bn
  have hR : Rows V tag int := ⟨fun b l => by rw [hs.a0]; exact htag b l, fun b l => by rw [hs.a1]; exact hint b l⟩
  refine Eq.trans ?_ (out_apply m ρ c tag int ⟨htag, hint⟩ b l i).symm
  have hk : (fun n => preRow m ρ c tag int b l n)
      = mixRow (catRow (arg m ρ c main_arg5) (arg m ρ c main_arg6) (arg m ρ c main_arg7) (arg m ρ c main_arg8) (tag b l) (int b l))
        (fun h => (g h : EReal)) (fun h => (s h : EReal)) (fun k => (x b l k : EReal)) (fun k h => (w k h : EReal))
        (fun h => (bn h : EReal)) := by
    simp only [← hgc, ← hbc, ← hx, ← hw, ← hbn]
    rfl
  rw [hk, row_eq]
  rw [result_apply, hs.a15, hs.a16]
  refine (congrArg₂ (fun p q : EReal => _ * p + q) (hg.go i) (hg.so i)).trans ?_
  rw [mul_one, add_zero]
  refine congrArg (fun f => lnRef ((64 : ℝ) : EReal) (eps : EReal) f i) (funext fun n => ?_)
  rw [v49_apply, hs.a9, hs.a10, hs.a13, hs.a14]
  refine congrArg₂ (fun p q => join p q n) (funext fun h => ?_) (funext fun h => ?_)
  · have hc : (fun j => (Cert.ReferenceIdeal.Value.res_main_v6 V : FVec Ideal Cert.ReferenceIdeal.S4096x200x32 .f32) (ix3 b l j))
        = catRow (arg m ρ c main_arg5) (arg m ρ c main_arg6) (arg m ρ c main_arg7) (arg m ρ c main_arg8) (tag b l) (int b l) := by
      funext j
      rw [← hs.a5, ← hs.a6, ← hs.a7, ← hs.a8]
      exact v6_apply V hR b l j
    exact congrArg₂ (fun p q : EReal => p + q) (congrArg₂ (fun p q : EReal => p * q) (congrArg (fun f => lnRef ((32 : ℝ) : EReal) (eps : EReal) f h) hc) (hgc h)) (hbc h)
  · have hn : (fun j => (Cert.ReferenceIdeal.Value.res_main_v30 V : FVec Ideal Cert.ReferenceIdeal.S4096x200x32 .f32) (ix3 b l j))
        = fun j => (∑ k, (x b l k : EReal) * (w k j : EReal)) + (bn j : EReal) := by
      funext j
      refine (v30_apply V b l j).trans ?_
      rw [hs.a2, hs.a3, hs.a4, hs.a11, hs.a12]
      simp only [← hx, ← hw, ← hbn]
      rfl
    refine (congrArg₂ (fun p q : EReal => _ * p + q) (hg.gn h) (hg.sn h)).trans ?_
    rw [mul_one, add_zero]
    exact congrArg (fun f => lnRef ((32 : ℝ) : EReal) (eps : EReal) f h) hn

/-- The two programs' results are equal. -/
theorem result_eq (hs : Same m ρ c V)
    (hg : Cert.Pre_inputs_as_drawn.Given (arg m ρ c main_arg0) (arg m ρ c main_arg1) (arg m ρ c main_arg2)
      (arg m ρ c main_arg3) (arg m ρ c main_arg4) (arg m ρ c main_arg9) (arg m ρ c main_arg10) (arg m ρ c main_arg11)
      (arg m ρ c main_arg12) (arg m ρ c main_arg13) (arg m ρ c main_arg14) (arg m ρ c main_arg15) (arg m ρ c main_arg16)) :
    result V = (W4 m ρ c (Proc.devRef .tc main_v0) : FVec Ideal S4096x200x64 .f32) := by
  funext j
  have hj : (j : S4096x200x64.Idx) = ix3 (j 0) (j 1) (j 2) := by funext a; fin_cases a <;> rfl
  rw [hj]
  exact result_eq_at m ρ c V hs hg (j 0) (j 1) (j 2)

end Cert.Proof

end
-- ==== Proof.lean ====
/- The proof of the claims: the frames of the three programs, and the equation of the kernel's result and the reference's
   from equal arguments that the precondition allows. The parts stand in their own modules:
   what the reference computes (`RefRows`, `RefValue`), what the first launch's tables hold (`Table`, `Arrays`), what one
   block of the second computes (`Block`), what the result array holds (`Output`), the equation of rows (`Norm`, `Mix`,
   `Equation`), what the precondition says (`Given`), and the equation of results (`Agree`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init
public import Idealize.ShloMosaic.Lib.Claim

@[expose] public section

set_option maxRecDepth 16384

noncomputable section

namespace Cert.Proof

open Idealize.ShloMosaic Idealize.ShloMosaic.TcCoe Idealize.SL.Sem

/-- The reference has no semaphore, so every counter of it reads zero. -/
theorem no_counter (f : GSem Cert.ReferenceIdeal.nD Cert.ReferenceIdeal.τ Cert.ReferenceIdeal.sig → ℤ) : f = fun _ => 0 := by
  funext g
  obtain ⟨c, s⟩ := g
  cases s with
  | reg s => exact Fin.elim0 s
  | dma s => exact Fin.elim0 s

/-- The reference runs, leaves its arguments as they were and every counter at zero. -/
theorem frame_reference : quiescent_ReferenceIdeal := fun m ρ _ =>
  (θ_run Cert.ReferenceIdeal.defs _ _).mono (fun r h => ⟨fun c => (h c).2, no_counter r.2.sem⟩)
    (Cert.ReferenceIdeal.Value.run (F := Ideal) m ρ)

/-- The precondition of the claim says `Given` of the kernel's arguments. -/
theorem given_of_pre (m : (ℓ : Loc Cert.KernelIdeal.nD Cert.KernelIdeal.τ Cert.KernelIdeal.sig) → Buf (Elt Ideal) ℓ)
    (ρ : Dev Cert.KernelIdeal.nD → PrngReg) (h : Pre_KernelIdeal_inputs_as_drawn m) (c : Dev Cert.KernelIdeal.nD) :
    Cert.Pre_inputs_as_drawn.Given (Cert.KernelIdeal.Value.arg m ρ c Cert.KernelIdeal.main_arg0)
      (Cert.KernelIdeal.Value.arg m ρ c Cert.KernelIdeal.main_arg1) (Cert.KernelIdeal.Value.arg m ρ c Cert.KernelIdeal.main_arg2)
      (Cert.KernelIdeal.Value.arg m ρ c Cert.KernelIdeal.main_arg3) (Cert.KernelIdeal.Value.arg m ρ c Cert.KernelIdeal.main_arg4)
      (Cert.KernelIdeal.Value.arg m ρ c Cert.KernelIdeal.main_arg9) (Cert.KernelIdeal.Value.arg m ρ c Cert.KernelIdeal.main_arg10)
      (Cert.KernelIdeal.Value.arg m ρ c Cert.KernelIdeal.main_arg11) (Cert.KernelIdeal.Value.arg m ρ c Cert.KernelIdeal.main_arg12)
      (Cert.KernelIdeal.Value.arg m ρ c Cert.KernelIdeal.main_arg13) (Cert.KernelIdeal.Value.arg m ρ c Cert.KernelIdeal.main_arg14)
      (Cert.KernelIdeal.Value.arg m ρ c Cert.KernelIdeal.main_arg15) (Cert.KernelIdeal.Value.arg m ρ c Cert.KernelIdeal.main_arg16) := by
  obtain ⟨h0, h1, h2, h3, h4, h5, h6, h7, h8, h9, h10, h11, h12⟩ := h c
  refine Cert.Pre_inputs_as_drawn.given _ _ _ _ _ (Cert.KernelIdeal.Value.arg m ρ c Cert.KernelIdeal.main_arg5)
    (Cert.KernelIdeal.Value.arg m ρ c Cert.KernelIdeal.main_arg6) (Cert.KernelIdeal.Value.arg m ρ c Cert.KernelIdeal.main_arg7)
    (Cert.KernelIdeal.Value.arg m ρ c Cert.KernelIdeal.main_arg8) _ _ _ _ _ _ _ _ ?_
  exact Prod.ext h0 (Prod.ext h1 (Prod.ext h2 (Prod.ext h3 (Prod.ext h4 (Prod.ext h5 (Prod.ext h6 (Prod.ext h7 (Prod.ext h8
    (Prod.ext h9 (Prod.ext h10 (Prod.ext h11 h12)))))))))))

/-- The kernel and the reference end with equal results. -/
theorem algebraic : algebraic_KernelIdeal_ReferenceIdeal_pre_inputs_as_drawn := by
  intro m ρ m' ρ' hpre hagree
  refine ⟨fun c => Cert.KernelIdeal.Gen.W4 m ρ c (Proc.devRef .tc Cert.KernelIdeal.main_v0),
    Cert.KernelIdeal.Gen.value_run m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10, h11, h12, h13, h14, h15, h16⟩ := hagree c
  exact result_eq m ρ c (StableHlo.launchContents m' c)
    ⟨h0, h1, h2, h3, h4, h5, h6, h7, h8, h9, h10, h11, h12, h13, h14, h15, h16⟩ (given_of_pre m ρ hpre c)

/-- The claims. -/
theorem claim : Cert.Claim :=
  ⟨Cert.Kernel.Gen.facts, Cert.KernelIdeal.Gen.facts, Cert.ReferenceIdeal.Gen.facts, Cert.Pre_inputs_as_drawn.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial,
    algebraic⟩

end Cert.Proof

end
